-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_arg9)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_arg9) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg9) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_arg5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S2x384x4096 : Shape := ⟨3, ![2, 384, 4096]⟩
abbrev S2x384 : Shape := ⟨2, ![2, 384]⟩
abbrev S4096x16384 : Shape := ⟨2, ![4096, 16384]⟩
abbrev S16384 : Shape := ⟨1, ![16384]⟩
abbrev S_ : Shape := ⟨0, ![]⟩
abbrev S16384x4096 : Shape := ⟨2, ![16384, 4096]⟩
abbrev S4096 : Shape := ⟨1, ![4096]⟩
abbrev S2x384x16384 : Shape := ⟨3, ![2, 384, 16384]⟩

class Facts : Prop where
  bcast_S2x384_S2x384x16384_0_1 : S2x384.BroadcastsInDim S2x384x16384 (![0, 1] : Fin 2 → Fin S2x384x16384.rank)
  bcast_S16384_S2x384x16384_2 : S16384.BroadcastsInDim S2x384x16384 (![2] : Fin 1 → Fin S2x384x16384.rank)
  bcast_S_S2x384x16384 : S_.BroadcastsInDim S2x384x16384 (![] : Fin 0 → Fin S2x384x16384.rank)
  bcast_S_S4096 : S_.BroadcastsInDim S4096 (![] : Fin 0 → Fin S4096.rank)

variable [Facts]

def fn_part1 {F : FTy → Type} [FloatOps F] (main_v5 : FVec F S2x384x16384 .f32) (main_v10 : FVec F S4096 .f32) (main_v20 : IVec S2x384x16384 1) : IVec S2x384x16384 1 × IVec S4096 1 :=
  let main_cst_2 : FVec F S_ .f32 := constant S_ .f32 0x0D800000#32
  let main_v21 : FVec F S2x384x16384 .f32 := broadcastInDim S2x384x16384 ![] bcast_S_S2x384x16384 main_cst_2
  let main_v22 : IVec S2x384x16384 1 := cmpf .oge main_v5 main_v21
  let main_v23 : IVec S2x384x16384 1 := andi main_v20 main_v22
  let main_cst_3 : FVec F S_ .f32 := constant S_ .f32 0x71800000#32
  let main_v24 : FVec F S2x384x16384 .f32 := broadcastInDim S2x384x16384 ![] bcast_S_S2x384x16384 main_cst_3
  let main_v25 : IVec S2x384x16384 1 := cmpf .ole main_v5 main_v24
  let main_v26 : IVec S2x384x16384 1 := andi main_v23 main_v25
  let main_cst_4 : FVec F S_ .f32 := constant S_ .f32 0x0D800000#32
  let main_v27 : FVec F S4096 .f32 := broadcastInDim S4096 ![] bcast_S_S4096 main_cst_4
  let main_v28 : IVec S4096 1 := cmpf .oge main_v10 main_v27
  let main_cst_5 : FVec F S_ .f32 := constant S_ .f32 0x71800000#32
  let main_v29 : FVec F S4096 .f32 := broadcastInDim S4096 ![] bcast_S_S4096 main_cst_5
  let main_v30 : IVec S4096 1 := cmpf .ole main_v10 main_v29
  let main_v31 : IVec S4096 1 := andi main_v28 main_v30
  (main_v26, main_v31)

def fn {F : FTy → Type} [FloatOps F] (main_arg0 : IVec S2x384x4096 8) (main_arg1 : FVec F S2x384 .f32) (main_arg2 : IVec S4096x16384 8) (main_arg3 : FVec F S16384 .f32) (main_arg4 : FVec F S16384 .f32) (main_arg5 : FVec F S_ .f32) (main_arg6 : IVec S16384x4096 8) (main_arg7 : FVec F S4096 .f32) (main_arg8 : IVec S4096 32) (main_arg9 : FVec F S_ .f32) : IVec S2x384x16384 1 × IVec S4096 1 :=
  let main_v0 : FVec F S2x384x16384 .f32 := broadcastInDim S2x384x16384 ![0, 1] bcast_S2x384_S2x384x16384_0_1 main_arg1
  let main_v1 : FVec F S2x384x16384 .f32 := broadcastInDim S2x384x16384 ![2] bcast_S16384_S2x384x16384_2 main_arg3
  let main_v2 : FVec F S2x384x16384 .f32 := mulf main_v0 main_v1
  let main_v3 : FVec F S2x384x16384 .f32 := broadcastInDim S2x384x16384 ![2] bcast_S16384_S2x384x16384_2 main_arg4
  let main_v4 : FVec F S2x384x16384 .f32 := broadcastInDim S2x384x16384 ![] bcast_S_S2x384x16384 main_arg5
  let main_v5 : FVec F S2x384x16384 .f32 := Host.divf main_v2 main_v4
  let main_v6 : FVec F S4096 .f32 := broadcastInDim S4096 ![] bcast_S_S4096 main_arg5
  let main_v7 : FVec F S4096 .f32 := mulf main_v6 main_arg7
  let main_v8 : FVec F S4096 .f32 := broadcastInDim S4096 ![] bcast_S_S4096 main_arg9
  let main_v9 : FVec F S4096 .f32 := Host.divf main_v7 main_v8
  let main_v10 : FVec F S4096 .f32 := Host.absf main_v9
  let main_cst : FVec F S_ .f32 := constant S_ .f32 0x01000000#32
  let main_v11 : FVec F S2x384x16384 .f32 := broadcastInDim S2x384x16384 ![] bcast_S_S2x384x16384 main_cst
  let main_v12 : IVec S2x384x16384 1 := cmpf .oge main_v2 main_v11
  let main_cst_0 : FVec F S_ .f32 := constant S_ .f32 0x3B800000#32
  let main_v13 : FVec F S2x384x16384 .f32 := broadcastInDim S2x384x16384 ![] bcast_S_S2x384x16384 main_cst_0
  let main_v14 : IVec S2x384x16384 1 := cmpf .ole main_v2 main_v13
  let main_v15 : IVec S2x384x16384 1 := andi main_v12 main_v14
  let main_v16 : FVec F S2x384x16384 .f32 := Host.divf main_v3 main_v2
  let main_v17 : FVec F S2x384x16384 .f32 := Host.absf main_v16
  let main_cst_1 : FVec F S_ .f32 := constant S_ .f32 0x4E800000#32
  let main_v18 : FVec F S2x384x16384 .f32 := broadcastInDim S2x384x16384 ![] bcast_S_S2x384x16384 main_cst_1
  let main_v19 : IVec S2x384x16384 1 := cmpf .ole main_v17 main_v18
  let main_v20 : IVec S2x384x16384 1 := andi main_v15 main_v19
  fn_part1 (F := F) main_v5 main_v10 main_v20
-- ==== Kernel.lean ====
abbrev S2x384x4096 : Shape := ⟨3, ![2, 384, 4096]⟩
abbrev S2x384 : Shape := ⟨2, ![2, 384]⟩
abbrev S4096x16384 : Shape := ⟨2, ![4096, 16384]⟩
abbrev S16384 : Shape := ⟨1, ![16384]⟩
abbrev S_ : Shape := ⟨0, ![]⟩
abbrev S16384x4096 : Shape := ⟨2, ![16384, 4096]⟩
abbrev S4096 : Shape := ⟨1, ![4096]⟩
abbrev S1x1 : Shape := ⟨2, ![1, 1]⟩
abbrev S768x4096 : Shape := ⟨2, ![768, 4096]⟩
abbrev S768x1 : Shape := ⟨2, ![768, 1]⟩
abbrev S1x16384 : Shape := ⟨2, ![1, 16384]⟩
abbrev S1x4096 : Shape := ⟨2, ![1, 4096]⟩
abbrev S768x16384 : Shape := ⟨2, ![768, 16384]⟩
abbrev S4096x512 : Shape := ⟨2, ![4096, 512]⟩
abbrev S1x512 : Shape := ⟨2, ![1, 512]⟩
abbrev S512x4096 : Shape := ⟨2, ![512, 4096]⟩
abbrev S768x512 : Shape := ⟨2, ![768, 512]⟩
abbrev S1x128 : Shape := ⟨2, ![1, 128]⟩
abbrev S32x1 : Shape := ⟨2, ![32, 1]⟩
abbrev S32x256 : Shape := ⟨2, ![32, 256]⟩
abbrev S1x256 : Shape := ⟨2, ![1, 256]⟩
abbrev S32x4096 : Shape := ⟨2, ![32, 4096]⟩

abbrev nBuf : Space → Nat
  | .hbm => 20
  | .vmem => 19
  | .smem => 2
  | _ => 0

abbrev bufTy : (tb : Table) → Fin (tcTables nBuf tb) → BufTy
  | .hbm, ⟨0, _⟩ => ⟨S2x384x4096, .i8⟩
  | .hbm, ⟨1, _⟩ => ⟨S2x384, .f32⟩
  | .hbm, ⟨2, _⟩ => ⟨S4096x16384, .i8⟩
  | .hbm, ⟨3, _⟩ => ⟨S16384, .f32⟩
  | .hbm, ⟨4, _⟩ => ⟨S16384, .f32⟩
  | .hbm, ⟨5, _⟩ => ⟨S_, .f32⟩
  | .hbm, ⟨6, _⟩ => ⟨S16384x4096, .i8⟩
  | .hbm, ⟨7, _⟩ => ⟨S4096, .f32⟩
  | .hbm, ⟨8, _⟩ => ⟨S4096, .i32⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S768x4096, .i8⟩
  | .hbm, ⟨13, _⟩ => ⟨S768x1, .f32⟩
  | .hbm, ⟨14, _⟩ => ⟨S1x16384, .f32⟩
  | .hbm, ⟨15, _⟩ => ⟨S1x16384, .f32⟩
  | .hbm, ⟨16, _⟩ => ⟨S1x4096, .f32⟩
  | .hbm, ⟨17, _⟩ => ⟨S1x4096, .i32⟩
  | .hbm, ⟨18, _⟩ => ⟨S768x4096, .i8⟩
  | .hbm, ⟨19, _⟩ => ⟨S768x16384, .i8⟩
  | .local _ .vmem, ⟨0, _⟩ => ⟨S768x4096, .i8⟩
  | .local _ .vmem, ⟨1, _⟩ => ⟨S768x1, .f32⟩
  | .local _ .vmem, ⟨2, _⟩ => ⟨S4096x512, .i8⟩
  | .local _ .vmem, ⟨3, _⟩ => ⟨S4096x512, .i8⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x4096, .i8⟩
  | .local _ .vmem, ⟨9, _⟩ => ⟨S512x4096, .i8⟩
  | .local _ .vmem, ⟨10, _⟩ => ⟨S1x4096, .f32⟩
  | .local _ .vmem, ⟨11, _⟩ => ⟨S1x4096, .i32⟩
  | .local _ .vmem, ⟨12, _⟩ => ⟨S768x4096, .i8⟩
  | .local _ .vmem, ⟨13, _⟩ => ⟨S768x512, .i8⟩
  | .local _ .vmem, ⟨14, _⟩ => ⟨S768x512, .i8⟩
  | .local _ .vmem, ⟨15, _⟩ => ⟨S768x4096, .bf16⟩
  | .local _ .vmem, ⟨16, _⟩ => ⟨S768x512, .f32⟩
  | .local _ .vmem, ⟨17, _⟩ => ⟨S768x512, .bf16⟩
  | .local _ .vmem, ⟨18, _⟩ => ⟨S768x4096, .f32⟩
  | .local _ .smem, ⟨0, _⟩ => ⟨S1x1, .f32⟩
  | .local _ .smem, ⟨1, _⟩ => ⟨S1x1, .f32⟩
  | _, _ => ⟨S2x384x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v11066 : BitVec 1 := Scalar.cmpi .eq arg0 c31_i32
  let v11067 : BitVec 32 := Scalar.extui v11066
  let c0_i32_2955 : BitVec 32 := 0#32
  let v11068 : BitVec 1 := Scalar.cmpi .ne v11067 c0_i32_2955
  v11068

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x4096 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S768x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x384x4096 : Shape := ⟨3, ![2, 384, 4096]⟩
abbrev S2x384 : Shape := ⟨2, ![2, 384]⟩
abbrev S4096x16384 : Shape := ⟨2, ![4096, 16384]⟩
abbrev S16384 : Shape := ⟨1, ![16384]⟩
abbrev S_ : Shape := ⟨0, ![]⟩
abbrev S16384x4096 : Shape := ⟨2, ![16384, 4096]⟩
abbrev S4096 : Shape := ⟨1, ![4096]⟩
abbrev S2x384x1 : Shape := ⟨3, ![2, 384, 1]⟩
abbrev S1x1x16384 : Shape := ⟨3, ![1, 1, 16384]⟩
abbrev S2x384x16384 : Shape := ⟨3, ![2, 384, 16384]⟩
abbrev S1x1x4096 : Shape := ⟨3, ![1, 1, 4096]⟩
abbrev S768x4096 : Shape := ⟨2, ![768, 4096]⟩
abbrev S768x16384 : Shape := ⟨2, ![768, 16384]⟩

abbrev nBuf : Space → Nat
  | .hbm => 261
  | .vmem => 0
  | .smem => 0
  | _ => 0

abbrev hbmTy0_0 (i : Nat) : BufTy := match i % 128 with
  | 0 => ⟨S2x384x4096, .i8⟩
  | 1 => ⟨S2x384, .f32⟩
  | 2 => ⟨S4096x16384, .i8⟩
  | 3 => ⟨S16384, .f32⟩
  | 4 => ⟨S16384, .f32⟩
  | 5 => ⟨S_, .f32⟩
  | 6 => ⟨S16384x4096, .i8⟩
  | 7 => ⟨S4096, .f32⟩
  | 8 => ⟨S4096, .i32⟩
  | 9 => ⟨S_, .f32⟩
  | 10 => ⟨S2x384x1, .f32⟩
  | 11 => ⟨S1x1x16384, .f32⟩
  | 12 => ⟨S2x384x16384, .f32⟩
  | 13 => ⟨S2x384x16384, .f32⟩
  | 14 => ⟨S2x384x16384, .f32⟩
  | 15 => ⟨S1x1x16384, .f32⟩
  | 16 => ⟨S2x384x16384, .f32⟩
  | 17 => ⟨S2x384x16384, .f32⟩
  | 18 => ⟨S2x384x16384, .f32⟩
  | 19 => ⟨S2x384x16384, .i32⟩
  | 20 => ⟨S2x384x4096, .i32⟩
  | 21 => ⟨S2x384x4096, .f32⟩
  | 22 => ⟨S4096x16384, .i32⟩
  | 23 => ⟨S4096x16384, .f32⟩
  | 24 => ⟨S2x384x4096, .bf16⟩
  | 25 => ⟨S4096x16384, .bf16⟩
  | 26 => ⟨S2x384x16384, .f32⟩
  | 27 => ⟨S2x384x16384, .i32⟩
  | 28 => ⟨S2x384x16384, .i32⟩
  | 29 => ⟨S_, .f32⟩
  | 30 => ⟨S2x384x16384, .f32⟩
  | 31 => ⟨S2x384x16384, .f32⟩
  | 32 => ⟨S2x384x16384, .f32⟩
  | 33 => ⟨S2x384x16384, .f32⟩
  | 34 => ⟨S_, .f32⟩
  | 35 => ⟨S_, .f32⟩
  | 36 => ⟨S2x384x16384, .f32⟩
  | 37 => ⟨S2x384x16384, .f32⟩
  | 38 => ⟨S2x384x16384, .f32⟩
  | 39 => ⟨S2x384x16384, .i32⟩
  | 40 => ⟨S_, .i32⟩
  | 41 => ⟨S2x384x16384, .i32⟩
  | 42 => ⟨S2x384x16384, .i32⟩
  | 43 => ⟨S2x384x16384, .i32⟩
  | 44 => ⟨S2x384x16384, .f32⟩
  | 45 => ⟨S_, .f32⟩
  | 46 => ⟨S2x384x16384, .f32⟩
  | 47 => ⟨S2x384x16384, .f32⟩
  | 48 => ⟨S2x384x16384, .f32⟩
  | 49 => ⟨S_, .i32⟩
  | 50 => ⟨S2x384x16384, .i32⟩
  | 51 => ⟨S2x384x16384, .i32⟩
  | 52 => ⟨S2x384x16384, .f32⟩
  | 53 => ⟨S_, .f32⟩
  | 54 => ⟨S2x384x16384, .f32⟩
  | 55 => ⟨S2x384x16384, .f32⟩
  | 56 => ⟨S2x384x16384, .f32⟩
  | 57 => ⟨S_, .f32⟩
  | 58 => ⟨S2x384x16384, .f32⟩
  | 59 => ⟨S2x384x16384, .f32⟩
  | 60 => ⟨S2x384x16384, .f32⟩
  | 61 => ⟨S2x384x16384, .i32⟩
  | 62 => ⟨S2x384x16384, .f32⟩
  | 63 => ⟨S_, .f32⟩
  | 64 => ⟨S2x384x16384, .f32⟩
  | 65 => ⟨S2x384x16384, .f32⟩
  | 66 => ⟨S2x384x16384, .f32⟩
  | 67 => ⟨S2x384x16384, .i32⟩
  | 68 => ⟨S2x384x16384, .f32⟩
  | 69 => ⟨S_, .f32⟩
  | 70 => ⟨S2x384x16384, .f32⟩
  | 71 => ⟨S2x384x16384, .f32⟩
  | 72 => ⟨S2x384x16384, .f32⟩
  | 73 => ⟨S2x384x16384, .f32⟩
  | 74 => ⟨S_, .f32⟩
  | 75 => ⟨S_, .f32⟩
  | 76 => ⟨S2x384x16384, .f32⟩
  | 77 => ⟨S2x384x16384, .f32⟩
  | 78 => ⟨S2x384x16384, .f32⟩
  | 79 => ⟨S2x384x16384, .i32⟩
  | 80 => ⟨S_, .i32⟩
  | 81 => ⟨S2x384x16384, .i32⟩
  | 82 => ⟨S2x384x16384, .i32⟩
  | 83 => ⟨S2x384x16384, .i32⟩
  | 84 => ⟨S2x384x16384, .f32⟩
  | 85 => ⟨S_, .f32⟩
  | 86 => ⟨S2x384x16384, .f32⟩
  | 87 => ⟨S2x384x16384, .f32⟩
  | 88 => ⟨S2x384x16384, .f32⟩
  | 89 => ⟨S_, .i32⟩
  | 90 => ⟨S2x384x16384, .i32⟩
  | 91 => ⟨S2x384x16384, .i32⟩
  | 92 => ⟨S2x384x16384, .f32⟩
  | 93 => ⟨S_, .f32⟩
  | 94 => ⟨S2x384x16384, .f32⟩
  | 95 => ⟨S2x384x16384, .f32⟩
  | 96 => ⟨S2x384x16384, .f32⟩
  | 97 => ⟨S_, .f32⟩
  | 98 => ⟨S2x384x16384, .f32⟩
  | 99 => ⟨S2x384x16384, .f32⟩
  | 100 => ⟨S2x384x16384, .f32⟩
  | 101 => ⟨S2x384x16384, .i32⟩
  | 102 => ⟨S2x384x16384, .f32⟩
  | 103 => ⟨S_, .f32⟩
  | 104 => ⟨S2x384x16384, .f32⟩
  | 105 => ⟨S2x384x16384, .f32⟩
  | 106 => ⟨S2x384x16384, .i32⟩
  | 107 => ⟨S_, .i32⟩
  | 108 => ⟨S2x384x16384, .i32⟩
  | 109 => ⟨S2x384x16384, .i1⟩
  | 110 => ⟨S_, .i32⟩
  | 111 => ⟨S2x384x16384, .i32⟩
  | 112 => ⟨S2x384x16384, .i32⟩
  | 113 => ⟨S2x384x16384, .i32⟩
  | 114 => ⟨S2x384x16384, .i32⟩
  | 115 => ⟨S_, .i32⟩
  | 116 => ⟨S2x384x16384, .i32⟩
  | 117 => ⟨S2x384x16384, .i32⟩
  | 118 => ⟨S2x384x16384, .i32⟩
  | 119 => ⟨S2x384x16384, .i32⟩
  | 120 => ⟨S2x384x16384, .i32⟩
  | 121 => ⟨S2x384x16384, .i32⟩
  | 122 => ⟨S2x384x16384, .i32⟩
  | 123 => ⟨S2x384x16384, .i32⟩
  | 124 => ⟨S2x384x16384, .i32⟩
  | 125 => ⟨S2x384x16384, .i32⟩
  | 126 => ⟨S2x384x16384, .i32⟩
  | 127 => ⟨S2x384x16384, .i32⟩
  | _ => ⟨S2x384x4096, .i8⟩

abbrev hbmTy0_1 (i : Nat) : BufTy := match i % 128 with
  | 0 => ⟨S2x384x16384, .i32⟩
  | 1 => ⟨S2x384x16384, .i32⟩
  | 2 => ⟨S2x384x16384, .f32⟩
  | 3 => ⟨S2x384x16384, .f32⟩
  | 4 => ⟨S2x384x16384, .f32⟩
  | 5 => ⟨S2x384x16384, .f32⟩
  | 6 => ⟨S_, .f32⟩
  | 7 => ⟨S_, .f32⟩
  | 8 => ⟨S2x384x16384, .f32⟩
  | 9 => ⟨S2x384x16384, .f32⟩
  | 10 => ⟨S2x384x16384, .f32⟩
  | 11 => ⟨S2x384x16384, .i32⟩
  | 12 => ⟨S_, .i32⟩
  | 13 => ⟨S2x384x16384, .i32⟩
  | 14 => ⟨S2x384x16384, .i32⟩
  | 15 => ⟨S2x384x16384, .i32⟩
  | 16 => ⟨S2x384x16384, .f32⟩
  | 17 => ⟨S_, .f32⟩
  | 18 => ⟨S2x384x16384, .f32⟩
  | 19 => ⟨S2x384x16384, .f32⟩
  | 20 => ⟨S2x384x16384, .f32⟩
  | 21 => ⟨S_, .f32⟩
  | 22 => ⟨S2x384x16384, .f32⟩
  | 23 => ⟨S2x384x16384, .f32⟩
  | 24 => ⟨S2x384x16384, .f32⟩
  | 25 => ⟨S2x384x16384, .i32⟩
  | 26 => ⟨S_, .i32⟩
  | 27 => ⟨S2x384x16384, .i32⟩
  | 28 => ⟨S2x384x16384, .i32⟩
  | 29 => ⟨S_, .i32⟩
  | 30 => ⟨S_, .i32⟩
  | 31 => ⟨S_, .i32⟩
  | 32 => ⟨S_, .i32⟩
  | 33 => ⟨S_, .i32⟩
  | 34 => ⟨S2x384x16384, .i32⟩
  | 35 => ⟨S2x384x16384, .i32⟩
  | 36 => ⟨S_, .i32⟩
  | 37 => ⟨S2x384x16384, .i32⟩
  | 38 => ⟨S2x384x16384, .i32⟩
  | 39 => ⟨S2x384x16384, .i32⟩
  | 40 => ⟨S_, .i32⟩
  | 41 => ⟨S2x384x16384, .i32⟩
  | 42 => ⟨S2x384x16384, .i32⟩
  | 43 => ⟨S_, .i32⟩
  | 44 => ⟨S2x384x16384, .i32⟩
  | 45 => ⟨S2x384x16384, .i32⟩
  | 46 => ⟨S2x384x16384, .i32⟩
  | 47 => ⟨S2x384x16384, .i32⟩
  | 48 => ⟨S_, .i32⟩
  | 49 => ⟨S_, .i32⟩
  | 50 => ⟨S_, .i32⟩
  | 51 => ⟨S2x384x16384, .i32⟩
  | 52 => ⟨S2x384x16384, .i32⟩
  | 53 => ⟨S_, .i32⟩
  | 54 => ⟨S2x384x16384, .i32⟩
  | 55 => ⟨S2x384x16384, .i32⟩
  | 56 => ⟨S2x384x16384, .i8⟩
  | 57 => ⟨S2x384x16384, .i32⟩
  | 58 => ⟨S2x384x16384, .f32⟩
  | 59 => ⟨S16384x4096, .i32⟩
  | 60 => ⟨S16384x4096, .f32⟩
  | 61 => ⟨S2x384x16384, .bf16⟩
  | 62 => ⟨S16384x4096, .bf16⟩
  | 63 => ⟨S2x384x4096, .f32⟩
  | 64 => ⟨S2x384x4096, .i32⟩
  | 65 => ⟨S1x1x4096, .i32⟩
  | 66 => ⟨S2x384x4096, .i32⟩
  | 67 => ⟨S2x384x4096, .i32⟩
  | 68 => ⟨S4096, .f32⟩
  | 69 => ⟨S4096, .f32⟩
  | 70 => ⟨S4096, .f32⟩
  | 71 => ⟨S4096, .f32⟩
  | 72 => ⟨S4096, .f32⟩
  | 73 => ⟨S4096, .f32⟩
  | 74 => ⟨S_, .f32⟩
  | 75 => ⟨S_, .f32⟩
  | 76 => ⟨S4096, .f32⟩
  | 77 => ⟨S4096, .f32⟩
  | 78 => ⟨S4096, .f32⟩
  | 79 => ⟨S4096, .i32⟩
  | 80 => ⟨S_, .i32⟩
  | 81 => ⟨S4096, .i32⟩
  | 82 => ⟨S4096, .i32⟩
  | 83 => ⟨S4096, .i32⟩
  | 84 => ⟨S4096, .f32⟩
  | 85 => ⟨S_, .f32⟩
  | 86 => ⟨S4096, .f32⟩
  | 87 => ⟨S4096, .f32⟩
  | 88 => ⟨S4096, .f32⟩
  | 89 => ⟨S_, .f32⟩
  | 90 => ⟨S4096, .f32⟩
  | 91 => ⟨S4096, .f32⟩
  | 92 => ⟨S4096, .f32⟩
  | 93 => ⟨S4096, .i32⟩
  | 94 => ⟨S_, .i32⟩
  | 95 => ⟨S4096, .i32⟩
  | 96 => ⟨S4096, .i32⟩
  | 97 => ⟨S_, .i32⟩
  | 98 => ⟨S_, .i32⟩
  | 99 => ⟨S_, .i32⟩
  | 100 => ⟨S_, .i32⟩
  | 101 => ⟨S_, .i32⟩
  | 102 => ⟨S2x384x4096, .i32⟩
  | 103 => ⟨S2x384x4096, .i32⟩
  | 104 => ⟨S_, .i32⟩
  | 105 => ⟨S2x384x4096, .i32⟩
  | 106 => ⟨S2x384x4096, .i32⟩
  | 107 => ⟨S1x1x4096, .i32⟩
  | 108 => ⟨S2x384x4096, .i32⟩
  | 109 => ⟨S2x384x4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S1x1x4096, .i32⟩
  | 117 => ⟨S2x384x4096, .i32⟩
  | 118 => ⟨S2x384x4096, .i32⟩
  | 119 => ⟨S1x1x4096, .i32⟩
  | 120 => ⟨S2x384x4096, .i32⟩
  | 121 => ⟨S2x384x4096, .i32⟩
  | 122 => ⟨S_, .i32⟩
  | 123 => ⟨S_, .i32⟩
  | 124 => ⟨S_, .i32⟩
  | 125 => ⟨S2x384x4096, .i32⟩
  | 126 => ⟨S2x384x4096, .i32⟩
  | 127 => ⟨S_, .i32⟩
  | _ => ⟨S2x384x4096, .i8⟩

abbrev hbmTy0_2 (i : Nat) : BufTy := match i % 128 with
  | 0 => ⟨S2x384x4096, .i32⟩
  | 1 => ⟨S2x384x4096, .i32⟩
  | 2 => ⟨S2x384x4096, .i8⟩
  | 3 => ⟨S768x4096, .i8⟩
  | 4 => ⟨S768x16384, .i8⟩
  | _ => ⟨S2x384x4096, .i8⟩

abbrev hbmTy (i : Nat) : BufTy := match i / 128 with
  | 0 => hbmTy0_0 i
  | 1 => hbmTy0_1 i
  | 2 => hbmTy0_2 i
  | _ => ⟨S2x384x4096, .i8⟩

abbrev bufTy : (tb : Table) → Fin (tcTables nBuf tb) → BufTy
  | .hbm, ⟨i, _⟩ => hbmTy i
  | _, _ => ⟨S2x384x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_14 : Ref sig .tc := ⟨.hbm, 107, rfl⟩
abbrev main_v81 : Ref sig .tc := ⟨.hbm, 108, rfl⟩
abbrev main_v82 : Ref sig .tc := ⟨.hbm, 109, rfl⟩
abbrev main_c_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_17 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_18 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_19 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_20 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_c_21 : Ref sig .tc := ⟨.hbm, 154, rfl⟩
abbrev main_v121 : Ref sig .tc := ⟨.hbm, 155, rfl⟩
abbrev main_v122 : Ref sig .tc := ⟨.hbm, 156, rfl⟩
abbrev main_c_22 : Ref sig .tc := ⟨.hbm, 157, rfl⟩
abbrev main_c_23 : Ref sig .tc := ⟨.hbm, 158, rfl⟩
abbrev main_v123 : Ref sig .tc := ⟨.hbm, 159, rfl⟩
abbrev main_c_24 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_c_25 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_26 : Ref sig .tc := ⟨.hbm, 168, rfl⟩
abbrev main_v130 : Ref sig .tc := ⟨.hbm, 169, rfl⟩
abbrev main_v131 : Ref sig .tc := ⟨.hbm, 170, rfl⟩
abbrev main_c_27 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_c_28 : Ref sig .tc := ⟨.hbm, 176, rfl⟩
abbrev main_c_29 : Ref sig .tc := ⟨.hbm, 177, rfl⟩
abbrev main_call3_v0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_30 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_31 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_cst_32 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_cst_33 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_c_34 : Ref sig .tc := ⟨.hbm, 222, rfl⟩
abbrev main_v171 : Ref sig .tc := ⟨.hbm, 223, rfl⟩
abbrev main_v172 : Ref sig .tc := ⟨.hbm, 224, rfl⟩
abbrev main_c_35 : Ref sig .tc := ⟨.hbm, 225, rfl⟩
abbrev main_c_36 : Ref sig .tc := ⟨.hbm, 226, rfl⟩
abbrev main_v173 : Ref sig .tc := ⟨.hbm, 227, rfl⟩
abbrev main_c_37 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_c_38 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_c_39 : Ref sig .tc := ⟨.hbm, 238, rfl⟩
abbrev main_v182 : Ref sig .tc := ⟨.hbm, 239, rfl⟩
abbrev main_v183 : Ref sig .tc := ⟨.hbm, 240, rfl⟩
abbrev main_c_40 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_c_41 : Ref sig .tc := ⟨.hbm, 250, rfl⟩
abbrev main_c_42 : Ref sig .tc := ⟨.hbm, 251, rfl⟩
abbrev main_call5_v0 : Ref sig .tc := ⟨.hbm, 252, rfl⟩
abbrev main_call5_v1 : Ref sig .tc := ⟨.hbm, 253, rfl⟩
abbrev main_call5_v2 : Ref sig .tc := ⟨.hbm, 254, rfl⟩
abbrev main_call5_v3 : Ref sig .tc := ⟨.hbm, 255, rfl⟩
abbrev main_call5_v4 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩

abbrev nD : Nat := 1
abbrev τ : Topo := Topo.v7x

variable {F : FTy → Type} [FloatOps F]
-- ==== Proof.Words.lean ====
/-
  32-bit words as integers. Every integer of the feed-forward block is a 32-bit word; here a word is written
  `BitVec.ofInt 32 z` for an integer `z`, and each operation on words is read as an operation on the integers:
  the shifts, the minimum, the absolute value, the conversion of an integral float, and the final clip to `[-127, 127]`.
-/
module

public import Idealize.ShloMosaic.PureOps.Ideal
public import Idealize.ShloMosaic.Lib.KernelVsHost
public import Idealize.ShloMosaic.Lib.WordArith

@[expose] public section

noncomputable section

namespace Cert.Proof.Words

open Idealize.ShloMosaic

/-- `z` is the value of a signed 32-bit word. -/
def InI32 (z : ℤ) : Prop := -2147483648 ≤ z ∧ z < 2147483648

theorem toInt_ofInt {z : ℤ} (h : InI32 z) : (BitVec.ofInt 32 z).toInt = z := by
  unfold InI32 at h
  rw [BitVec.toInt_ofInt, Int.bmod_def]
  omega

theorem ofInt_toInt (w : BitVec 32) : BitVec.ofInt 32 w.toInt = w := BitVec.ofInt_toInt

theorem inI32_toInt (w : BitVec 32) : InI32 w.toInt := by
  have h1 := w.toInt_lt
  have h2 := w.le_toInt
  unfold InI32
  constructor <;> omega

/-- The conversion of an integral float of the 32-bit range is that integer's word. -/
theorem fptosi_int {z : ℤ} (h : InI32 z) : Ideal.fptosi 32 (((z : ℝ) : EReal)) = BitVec.ofInt 32 z := by
  unfold InI32 at h
  unfold Ideal.fptosi
  rw [Ideal.toIntClamped_coe]
  congr 1
  simp only [Int.floor_intCast, Int.ceil_intCast, ite_self]
  norm_num
  omega

/-- An arithmetic shift right by `n ≥ 0` is the integer division by `2 ^ n`, for an amount over the width too. -/
theorem shrsi_ofInt (u : ArithUnit) {z : ℤ} (hz : InI32 z) {n : ℕ} (hn : n < 2147483648) :
    IntOp.shrsi u (BitVec.ofInt 32 z) (BitVec.ofInt 32 (n : ℤ)) = BitVec.ofInt 32 (z / 2 ^ n) := by
  have hnn : (BitVec.ofInt 32 (n : ℤ)).toNat = n := by
    rw [BitVec.toNat_ofInt]
    omega
  have hr : InI32 (z / 2 ^ n) := by
    unfold InI32 at *
    have h2 : (1 : ℤ) ≤ 2 ^ n := one_le_pow₀ (by norm_num)
    constructor
    · refine (Int.le_ediv_iff_mul_le (by positivity)).2 ?_
      nlinarith
    · refine (Int.ediv_lt_iff_lt_mul (by positivity)).2 ?_
      nlinarith
  apply BitVec.eq_of_toInt_eq
  rw [toInt_ofInt hr]
  unfold IntOp.shrsi
  rw [hnn]
  split
  · rename_i hlt
    rw [BitVec.sshiftRight', hnn, BitVec.toInt_sshiftRight, toInt_ofInt hz, Int.shiftRight_eq_div_pow]
    norm_num
  · rename_i hge
    have h32 : (2 : ℤ) ^ 32 ≤ 2 ^ n := pow_le_pow_right₀ (by norm_num) (by omega)
    unfold IntOp.cornerWord
    simp only [ne_eq, not_true_eq_false, if_false]
    have hm : (BitVec.ofInt 32 z).msb = decide (z < 0) := by
      rw [BitVec.msb_eq_toInt, toInt_ofInt hz]
    rw [hm]
    unfold InI32 at hz
    by_cases h0 : z < 0
    · simp only [h0, decide_true, if_true]
      have : z / 2 ^ n = -1 := by
        rw [Int.ediv_eq_iff_of_pos (by positivity)]
        constructor <;> omega
      rw [this]
      decide
    · simp only [h0, decide_false]
      have : z / 2 ^ n = 0 := Int.ediv_eq_zero_of_lt (by omega) (by omega)
      rw [this]
      simp

theorem minsi_ofInt {a b : ℤ} (ha : InI32 a) (hb : InI32 b) :
    IntOp.minsi (BitVec.ofInt 32 a) (BitVec.ofInt 32 b) = BitVec.ofInt 32 (min a b) := by
  unfold IntOp.minsi
  simp only [BitVec.slt_iff_toInt_lt, toInt_ofInt ha, toInt_ofInt hb]
  split
  · rw [min_eq_left (by omega)]
  · rw [min_eq_right (by omega)]

theorem maxsi_ofInt {a b : ℤ} (ha : InI32 a) (hb : InI32 b) :
    IntOp.maxsi (BitVec.ofInt 32 a) (BitVec.ofInt 32 b) = BitVec.ofInt 32 (max a b) := by
  unfold IntOp.maxsi
  simp only [BitVec.slt_iff_toInt_lt, toInt_ofInt ha, toInt_ofInt hb]
  split
  · rw [max_eq_left (by omega)]
  · rw [max_eq_right (by omega)]

theorem absi_ofInt {a : ℤ} (ha : InI32 a) : IntOp.absi (BitVec.ofInt 32 a) = BitVec.ofInt 32 |a| := by
  unfold IntOp.absi
  have hm : (BitVec.ofInt 32 a).msb = decide (a < 0) := by
    rw [BitVec.msb_eq_toInt, toInt_ofInt ha]
  rw [hm]
  by_cases h : a < 0
  · simp only [h, decide_true, if_true]
    rw [abs_of_neg h, BitVec.ofInt_neg]
  · simp only [h, decide_false]
    rw [abs_of_nonneg (by omega)]
    simp

theorem sge_ofInt {a b : ℤ} (ha : InI32 a) (hb : InI32 b) (h : b ≤ a) :
    IntOp.cmpi .sge (BitVec.ofInt 32 a) (BitVec.ofInt 32 b) = 1 := by
  show BitVec.ofBool ((BitVec.ofInt 32 b).sle (BitVec.ofInt 32 a)) = 1
  have : (BitVec.ofInt 32 b).sle (BitVec.ofInt 32 a) = true := by
    rw [BitVec.sle_iff_toInt_le, toInt_ofInt ha, toInt_ofInt hb]; exact h
  rw [this]; rfl

theorem addi_ofInt (a b : ℤ) : IntOp.addi (BitVec.ofInt 32 a) (BitVec.ofInt 32 b) = BitVec.ofInt 32 (a + b) := by
  unfold IntOp.addi; rw [BitVec.ofInt_add]

theorem subi_ofInt (a b : ℤ) : IntOp.subi (BitVec.ofInt 32 a) (BitVec.ofInt 32 b) = BitVec.ofInt 32 (a - b) := by
  unfold IntOp.subi
  rw [show a - b = a + -b by ring, BitVec.ofInt_add, BitVec.ofInt_neg, BitVec.sub_eq_add_neg]

theorem muli_ofInt (a b : ℤ) : IntOp.muli (BitVec.ofInt 32 a) (BitVec.ofInt 32 b) = BitVec.ofInt 32 (a * b) := by
  unfold IntOp.muli; rw [BitVec.ofInt_mul]

theorem neg_ofInt (a : ℤ) : -(BitVec.ofInt 32 a) = BitVec.ofInt 32 (-a) := (BitVec.ofInt_neg).symm

/-- The word of the clip of `r` to `[-127, 127]`, as the host takes it: the maximum, then the minimum. -/
def clipWord (r : BitVec 32) : BitVec 32 := IntOp.minsi 127#32 (IntOp.maxsi 4294967169#32 r)

theorem clipWord_eq (r : BitVec 32) : clipWord r = BitVec.ofInt 32 (min 127 (max (-127) r.toInt)) := by
  have h1 : (4294967169#32) = BitVec.ofInt 32 (-127) := by decide
  have h2 : (127#32) = BitVec.ofInt 32 127 := by decide
  have hr := inI32_toInt r
  unfold clipWord
  conv_lhs => rw [← ofInt_toInt r]
  have hm : InI32 (max (-127) r.toInt) := by unfold InI32 at *; omega
  rw [h1, h2, maxsi_ofInt (by unfold InI32; omega) hr, minsi_ofInt (by unfold InI32; omega) hm]

/-- The clipped word fits eight bits. -/
theorem setWidth_clipWord (r : BitVec 32) :
    ((clipWord r).setWidth 8).toInt = min 127 (max (-127) r.toInt) := by
  rw [clipWord_eq]
  generalize hz : min 127 (max (-127) r.toInt) = z
  have hb : -127 ≤ z ∧ z ≤ 127 := by omega
  rw [BitVec.toInt_setWidth, BitVec.toNat_ofInt, Int.bmod_def]
  omega

/-- The clip in floats is the clip in words: the same eight bits. -/
theorem clip_float (r : BitVec 32) :
    (Ideal.fptosi 32 (((min 127 (max (-127) r.toInt) : ℤ) : ℝ) : EReal)).setWidth 8 = (clipWord r).setWidth 8 := by
  rw [fptosi_int (by unfold InI32; omega), clipWord_eq]

end Cert.Proof.Words
-- ==== Proof.Powers.lean ====
/-
  Powers of two and exponents. A float word whose fraction bits are zero denotes a power of two; the binary search
  over the powers of two finds the exponent field of a normal number; the base-two logarithm's floor is the same
  exponent.
-/
module

public import Idealize.ShloMosaic.PureOps.Ideal
public import proofs.«01_k».proof.Proof.Words

@[expose] public section

noncomputable section

namespace Cert.Proof.Powers

open Idealize.ShloMosaic Cert.Proof.Words

/-- The word with exponent field `n` and no sign or fraction bits. -/
def fieldWord (n : ℕ) : BitVec 32 := BitVec.ofNat 32 (n * 8388608)

theorem fieldWord_add (a b : ℕ) : fieldWord a + fieldWord b = fieldWord (a + b) := by
  apply BitVec.eq_of_toNat_eq
  unfold fieldWord
  rw [BitVec.toNat_add, BitVec.toNat_ofNat, BitVec.toNat_ofNat, BitVec.toNat_ofNat]
  omega

theorem fieldWord_sub {a b : ℕ} (h : b ≤ a) : fieldWord a - fieldWord b = fieldWord (a - b) := by
  have : fieldWord a = fieldWord (a - b) + fieldWord b := by rw [fieldWord_add, Nat.sub_add_cancel h]
  rw [this, BitVec.add_sub_cancel]

theorem field_exp {n : ℕ} (h : n ≤ 255) : ((fieldWord n).extractLsb' 23 8).toNat = n := by
  unfold fieldWord
  rw [BitVec.extractLsb'_toNat, BitVec.toNat_ofNat, Nat.shiftRight_eq_div_pow]
  omega

theorem field_frac {n : ℕ} (h : n ≤ 255) : ((fieldWord n).extractLsb' 0 23).toNat = 0 := by
  unfold fieldWord
  rw [BitVec.extractLsb'_toNat, BitVec.toNat_ofNat, Nat.shiftRight_eq_div_pow]
  omega

theorem field_sign {n : ℕ} (h : n ≤ 255) : ((fieldWord n).extractLsb' 31 1 == 1#1) = false := by
  have : (fieldWord n).extractLsb' 31 1 = 0#1 := by
    apply BitVec.eq_of_toNat_eq
    unfold fieldWord
    rw [BitVec.extractLsb'_toNat, BitVec.toNat_ofNat, Nat.shiftRight_eq_div_pow]
    simp
    omega
  rw [this]; decide

/-- A normal power of two. -/
theorem float_field {n : ℕ} (h1 : 1 ≤ n) (h2 : n ≤ 254) :
    Ideal.ofBits .f32 (fieldWord n) = (((2 : ℝ) ^ ((n : ℤ) - 127) : ℝ) : EReal) := by
  unfold Ideal.ofBits Ideal.ieee
  have e1 := field_exp (n := n) (by omega)
  have e2 := field_frac (n := n) (by omega)
  have e3 := field_sign (n := n) (by omega)
  simp only [Nat.reduceAdd, e1, e2, e3]
  rw [if_neg (by norm_num; omega), if_neg (by omega)]
  congr 1
  simp only [Bool.false_eq_true, if_false, Nat.add_zero]
  have : ((n : ℤ) - 127) = 23 + ((n : ℤ) - 127 - 23) := by ring
  rw [this, zpow_add₀ (by norm_num)]
  norm_num

/-- The largest exponent field is infinity. -/
theorem float_field_top : Ideal.ofBits .f32 (fieldWord 255) = ⊤ := by
  unfold Ideal.ofBits Ideal.ieee
  have e1 := field_exp (n := 255) (by omega)
  have e2 := field_frac (n := 255) (by omega)
  have e3 := field_sign (n := 255) (by omega)
  simp only [Nat.reduceAdd, e1, e2, e3]
  norm_num

/-- `E` is the exponent of the real `r`. -/
def IsExp (r : ℝ) (E : ℤ) : Prop := (2 : ℝ) ^ E ≤ |r| ∧ |r| < 2 ^ (E + 1)

theorem IsExp.exists {r : ℝ} (h : r ≠ 0) : ∃ E, IsExp r E := by
  obtain ⟨E, h1, h2⟩ := exists_mem_Ico_zpow (abs_pos.2 h) (by norm_num : (1 : ℝ) < 2)
  exact ⟨E, h1, h2⟩

theorem IsExp.ge {r : ℝ} {E k : ℤ} (h : IsExp r E) (hk : (2 : ℝ) ^ k ≤ |r|) : k ≤ E := by
  have : (2 : ℝ) ^ k < 2 ^ (E + 1) := lt_of_le_of_lt hk h.2
  have := (zpow_lt_zpow_iff_right₀ (by norm_num : (1 : ℝ) < 2)).1 this
  omega

theorem IsExp.lt {r : ℝ} {E k : ℤ} (h : IsExp r E) (hk : |r| < (2 : ℝ) ^ k) : E < k := by
  have : (2 : ℝ) ^ E < 2 ^ k := lt_of_le_of_lt h.1 hk
  exact (zpow_lt_zpow_iff_right₀ (by norm_num : (1 : ℝ) < 2)).1 this

theorem IsExp.le_iff {r : ℝ} {E : ℤ} (h : IsExp r E) (k : ℤ) : (2 : ℝ) ^ k ≤ |r| ↔ k ≤ E := by
  refine ⟨h.ge, fun hk => le_trans ?_ h.1⟩
  exact zpow_le_zpow_right₀ (by norm_num) hk

/-- One step of the search: the word `f + w` if the number is at least the float of `f + w`, else `f`. -/
def step (a : EReal) (f w : BitVec 32) : BitVec 32 :=
  Scalar.select (Ideal.cmp .oge a (Ideal.ofBits .f32 (IntOp.addi f w))) (IntOp.addi f w) f

theorem step_field {r : ℝ} {E : ℤ} (h : IsExp r E) (hE : E ≤ 127) {k s : ℕ} (h1 : 1 ≤ k + s) (h2 : k + s ≤ 255) :
    step ((|r| : ℝ) : EReal) (fieldWord k) (fieldWord s) =
      fieldWord (if ((k + s : ℕ) : ℤ) - 127 ≤ E then k + s else k) := by
  have hsel : ∀ (P : Prop) [Decidable P] (x y : BitVec 32), Scalar.select (BitVec.ofBool (decide P)) x y = if P then x else y := by
    intro P _ x y
    by_cases hP : P <;> simp [Scalar.select, hP]
  unfold step IntOp.addi Ideal.cmp
  rw [fieldWord_add]
  dsimp only
  rw [hsel]
  by_cases h3 : k + s = 255
  · rw [h3, float_field_top, if_neg (by simp), if_neg (by omega)]
  · rw [float_field h1 (by omega)]
    by_cases h4 : ((k + s : ℕ) : ℤ) - 127 ≤ E
    · have h5 : (((2 : ℝ) ^ (((k + s : ℕ) : ℤ) - 127) : ℝ) : EReal) ≤ ((|r| : ℝ) : EReal) :=
        EReal.coe_le_coe_iff.2 ((h.le_iff _).2 h4)
      rw [if_pos h4, if_pos h5]
    · have h5 : ¬ (((2 : ℝ) ^ (((k + s : ℕ) : ℤ) - 127) : ℝ) : EReal) ≤ ((|r| : ℝ) : EReal) := fun h6 =>
        h4 ((h.le_iff _).1 (EReal.coe_le_coe_iff.1 h6))
      rw [if_neg h4, if_neg h5]

/-- The search over the powers of two, from the largest step to the smallest. -/
def search (a : EReal) : BitVec 32 :=
  step a (step a (step a (step a (step a (step a (step a (step a 0#32
    1073741824#32) 536870912#32) 268435456#32) 134217728#32) 67108864#32) 33554432#32) 16777216#32) 8388608#32

/-- The search finds the exponent field of a normal number. -/
theorem search_eq {r : ℝ} {E : ℤ} (h : IsExp r E) (h1 : -126 ≤ E) (h2 : E ≤ 127) :
    search ((|r| : ℝ) : EReal) = fieldWord (E + 127).toNat := by
  obtain ⟨K, hK⟩ : ∃ K : ℕ, E = K - 127 := ⟨(E + 127).toNat, by omega⟩
  have hs : ∀ k s : ℕ, 1 ≤ s → k ≤ K → K < k + 2 * s → k + s ≤ 255 →
      ∃ k', step ((|r| : ℝ) : EReal) (fieldWord k) (fieldWord s) = fieldWord k' ∧ k' ≤ K ∧ K < k' + s ∧ k' ≤ k + s := by
    intro k s hs1 hk1 hk2 hk3
    refine ⟨_, step_field h h2 (by omega) hk3, ?_⟩
    split <;> omega
  unfold search
  have c0 : (0#32) = fieldWord 0 := by decide
  have c1 : (1073741824#32) = fieldWord 128 := by decide
  have c2 : (536870912#32) = fieldWord 64 := by decide
  have c3 : (268435456#32) = fieldWord 32 := by decide
  have c4 : (134217728#32) = fieldWord 16 := by decide
  have c5 : (67108864#32) = fieldWord 8 := by decide
  have c6 : (33554432#32) = fieldWord 4 := by decide
  have c7 : (16777216#32) = fieldWord 2 := by decide
  have c8 : (8388608#32) = fieldWord 1 := by decide
  rw [c0, c1, c2, c3, c4, c5, c6, c7, c8]
  obtain ⟨k1, e1, a1, b1, d1⟩ := hs 0 128 (by omega) (by omega) (by omega) (by omega)
  obtain ⟨k2, e2, a2, b2, d2⟩ := hs k1 64 (by omega) a1 (by omega) (by omega)
  obtain ⟨k3, e3, a3, b3, d3⟩ := hs k2 32 (by omega) a2 (by omega) (by omega)
  obtain ⟨k4, e4, a4, b4, d4⟩ := hs k3 16 (by omega) a3 (by omega) (by omega)
  obtain ⟨k5, e5, a5, b5, d5⟩ := hs k4 8 (by omega) a4 (by omega) (by omega)
  obtain ⟨k6, e6, a6, b6, d6⟩ := hs k5 4 (by omega) a5 (by omega) (by omega)
  obtain ⟨k7, e7, a7, b7, d7⟩ := hs k6 2 (by omega) a6 (by omega) (by omega)
  obtain ⟨k8, e8, a8, b8, d8⟩ := hs k7 1 (by omega) a7 (by omega) (by omega)
  rw [e1, e2, e3, e4, e5, e6, e7, e8]
  congr 1
  omega

/-- The floor of the base-two logarithm is the exponent. -/
theorem floor_log {r : ℝ} {E : ℤ} (h : IsExp r E) : ⌊Real.log |r| / Real.log 2⌋ = E := by
  have hl : (0 : ℝ) < Real.log 2 := Real.log_pos (by norm_num)
  have hp : (0 : ℝ) < |r| := lt_of_lt_of_le (by positivity) h.1
  rw [Int.floor_eq_iff]
  constructor
  · rw [le_div_iff₀ hl, ← Real.log_zpow]
    exact Real.log_le_log (by positivity) h.1
  · rw [div_lt_iff₀ hl]
    have : ((E : ℝ) + 1) * Real.log 2 = Real.log (2 ^ (E + 1)) := by
      rw [Real.log_zpow]; push_cast; ring
    rw [this]
    exact Real.log_lt_log hp h.2

theorem IsExp.ne_zero {r : ℝ} {E : ℤ} (h : IsExp r E) : r ≠ 0 := by
  intro h0
  have := h.1
  rw [h0, abs_zero] at this
  have : (0 : ℝ) < 2 ^ E := by positivity
  linarith

/-- A number scaled by a power of two moves its exponent. -/
theorem IsExp.scale {r : ℝ} {E : ℤ} (h : IsExp r E) (k : ℤ) : IsExp (r * 2 ^ k) (E + k) := by
  have hp : (0 : ℝ) < 2 ^ k := by positivity
  unfold IsExp at *
  rw [abs_mul, abs_of_pos hp, show E + k + 1 = (E + 1) + k by ring, zpow_add₀ (by norm_num), zpow_add₀ (by norm_num : (2 : ℝ) ≠ 0) (E + 1)]
  exact ⟨mul_le_mul_of_nonneg_right h.1 hp.le, mul_lt_mul_of_pos_right h.2 hp⟩

end Cert.Proof.Powers
-- ==== Proof.Scalars.lean ====
/-
  The arithmetic of one element, as the kernel does it and as the reference does it, over the extended reals. The
  names with `k` are the kernel's, those with `r` the reference's. The kernel reads exponents by a search over words and
  makes powers of two from words; the reference takes logarithms and powers. This module has the definitions and the
  lemmas on single operations at real numbers.
-/
module

public import proofs.«01_k».proof.Proof.Powers

@[expose] public section

noncomputable section

namespace Cert.Proof.Scalars

open Idealize.ShloMosaic Cert.Proof.Words Cert.Proof.Powers

/-- The floor, and the rounding to the nearest integer, of an extended real. -/
abbrev fl (x : EReal) : EReal := Ideal.liftRound Int.floor x
abbrev rne (x : EReal) : EReal := Ideal.liftRound Ideal.roundHalfEven x

/-- A word as a float. -/
abbrev wordF (w : BitVec 32) : EReal := Ideal.ofBits .f32 w
/-- The value of an integer word. -/
abbrev valF (w : BitVec 32) : EReal := ((w.toInt : ℝ) : EReal)

/-! ## The kernel's element -/

/-- The exponent field of `v`. -/
def kEx (v : EReal) : BitVec 32 := search (max v (-v))
/-- `v` scaled to `[2⁻⁹, 2⁻⁸)`. -/
def kNorm (v : EReal) : EReal := v * wordF (IntOp.subi 2055208960#32 (kEx v))
/-- `2⁹` times the power of two of `v`'s exponent. -/
def kPow (v : EReal) : EReal := wordF (IntOp.addi (kEx v) 75497472#32)
def kSe (s1 : EReal) : EReal := Ideal.div s1 (wordF 0x3FB50481#32)
def kSe2 (s1 : EReal) : EReal := kNorm (kSe s1)
def kB (se2 : EReal) : EReal := fl (Ideal.div (wordF 0xBFE26E98#32) se2)
def kC (se2 : EReal) : EReal := fl (Ideal.div (wordF 0xC05D9B4D#32) (se2 * se2))
def kErf0 (se2 : EReal) : EReal := (se2 * se2) * wordF 0xBE93DD98#32
def kErf (s1 : EReal) : EReal := kNorm (kErf0 (kSe2 s1))
def kOne (s1 : EReal) : EReal := fl (Ideal.div (wordF 0x3F800000#32) (kErf s1))
def kMult (s1 hh : EReal) : EReal := (s1 * kErf s1) * hh
def kQ (acc s1 b1 : EReal) : BitVec 32 := IntOp.addi (Ideal.fptosi 32 acc) (Ideal.fptosi 32 (rne (Ideal.div b1 s1)))
def kA (s1 qf : EReal) : EReal := fl (max qf (-qf) * kPow (kSe s1))
def kD (s1 qf : EReal) : EReal := min (kA s1 qf + kB (kSe2 s1)) (wordF 0#32)
def kP (s1 qf : EReal) : EReal := kD s1 qf * kD s1 qf + kC (kSe2 s1)
def kSp (s1 qf : EReal) : EReal :=
  Scalar.select (Ideal.cmp .olt qf (wordF 0#32)) (wordF 0#32 - kP s1 qf) (kP s1 qf)
def kE (s1 qf : EReal) : EReal := fl (kSp s1 qf * kPow (kErf0 (kSe2 s1)))
/-- The GELU's integer, shifted right by 14 and rounded. -/
def kV (s1 : EReal) (q : BitVec 32) : BitVec 32 :=
  IntOp.shrsi .vector (IntOp.addi (IntOp.muli q (Ideal.fptosi 32 (kE s1 (valF q) + kOne s1))) 8192#32) 14#32
/-- The requantization's mantissa and shift amount. -/
def kM (mult : EReal) : BitVec 32 := Ideal.fptosi 32 (rne (mult * wordF (IntOp.subi 2239758336#32 (kEx mult))))
def kK (k0 : BitVec 32) (mult : EReal) : BitVec 32 := IntOp.subi k0 (IntOp.shrui .vector (kEx mult) 23#32)
/-- The shift amount from the exponent field with the sign bit before it. -/
def kKs (mult : EReal) : BitVec 32 :=
  IntOp.subi 382#32 (IntOp.addi (IntOp.shrui .vector (kEx mult) 23#32)
    (Scalar.select (Ideal.cmp .olt mult (wordF 0#32)) 256#32 0#32))
/-- `v * m / 2 ^ k`, rounded. -/
def kReq (v m k : BitVec 32) : BitVec 32 :=
  IntOp.shrsi .vector (IntOp.addi (IntOp.muli v m) (IntOp.shli .vector 1#32 (IntOp.subi k 1#32))) k
/-- The hidden code as a float. -/
def kCode (r : BitVec 32) : EReal := min (wordF 0x42FE0000#32) (max (wordF 0xC2FE0000#32) (valF r))
/-- The hidden element before its clip. -/
def kHidden (acc s1 b1 hh : EReal) : BitVec 32 :=
  kReq (kV s1 (kQ acc s1 b1)) (kM (kMult s1 hh)) (kKs (kMult s1 hh))

/-! ## The reference's element -/

def rLog (v : EReal) : EReal := fl (Ideal.div (Ideal.log (max v (-v))) (Ideal.log (wordF 0x40000000#32)))
def rExp (v : EReal) : BitVec 32 := IntOp.addi (Ideal.fptosi 32 (rLog v)) 1#32
def rLdexp (v : EReal) (t : BitVec 32) : EReal := v * Ideal.pow (wordF 0x40000000#32) (valF t)
def rT (v : EReal) : BitVec 32 := IntOp.subi 4294967288#32 (rExp v)
def rSe2 (s1 : EReal) : EReal := rLdexp (kSe s1) (rT (kSe s1))
def rErf (s1 : EReal) : EReal := rLdexp (kErf0 (rSe2 s1)) (rT (kErf0 (rSe2 s1)))
def rB (s1 : EReal) : BitVec 32 := Ideal.fptosi 32 (kB (rSe2 s1))
def rC (s1 : EReal) : BitVec 32 := Ideal.fptosi 32 (kC (rSe2 s1))
def rOne (s1 : EReal) : BitVec 32 := Ideal.fptosi 32 (fl (Ideal.div (wordF 0x3F800000#32) (rErf s1)))
def rMult (s1 h : EReal) : EReal := Ideal.div ((s1 * rErf s1) * wordF 0x3F000000#32) h
/-- `x >> t` for `t ≥ 0`, else `x << -t`. -/
def rShift (x t : BitVec 32) : BitVec 32 :=
  Scalar.select (IntOp.cmpi .sge t 0#32) (IntOp.shrsi .host x (IntOp.maxsi t 0#32)) (IntOp.shli .host x (IntOp.maxsi (-t) 0#32))
def rSign (q : BitVec 32) : BitVec 32 := if q = 0 then 0 else if q.msb then -1 else 1
def rD (s1 : EReal) (q : BitVec 32) : BitVec 32 :=
  IntOp.addi (IntOp.minsi (rShift (IntOp.absi q) (rT (kSe s1))) (-(rB s1))) (rB s1)
def rP (s1 : EReal) (q : BitVec 32) : BitVec 32 := IntOp.addi (IntOp.muli (rD s1 q) (rD s1 q)) (rC s1)
def rE (s1 : EReal) (q : BitVec 32) : BitVec 32 :=
  IntOp.shrsi .host (IntOp.muli (rSign q) (rP s1 q)) (rT (kErf0 (rSe2 s1)))
/-- `v` shifted right by `pre` and rounded. -/
def rPre (v pre : BitVec 32) : BitVec 32 :=
  IntOp.shrsi .host (IntOp.addi v (IntOp.shrsi .host (IntOp.shli .host 1#32 pre) 1#32)) pre
def rV (s1 : EReal) (q : BitVec 32) : BitVec 32 :=
  rPre (IntOp.muli q (IntOp.addi (rE s1 q) (rOne s1))) 14#32
def rM (mult : EReal) : BitVec 32 := Ideal.fptosi 32 (rne (rLdexp mult (-(rExp mult)) * wordF 0x46800000#32))
def rK (k0 : BitVec 32) (mult : EReal) : BitVec 32 := IntOp.subi k0 (rExp mult)
def rReq (v m k : BitVec 32) : BitVec 32 :=
  IntOp.shrsi .host (IntOp.addi (IntOp.muli v m) (IntOp.shli .host 1#32 (IntOp.subi k 1#32))) k
/-- The hidden element before its clip. -/
def rHidden (acc s1 b1 h : EReal) : BitVec 32 :=
  rReq (rV s1 (kQ acc s1 b1)) (rM (rMult s1 h)) (rK 0#32 (rMult s1 h))

/-! ## The constants -/

/-- The step's divisor, a float near the square root of two. -/
def sigma : ℝ := 11863169 / 8388608
def cb : ℝ := -14839448 / 8388608
def cc : ℝ := -14523213 / 4194304
def ca : ℝ := -9690520 / 33554432

theorem sigma_eq : wordF 0x3FB50481#32 = (sigma : EReal) := by
  unfold sigma; simp [wordF, Ideal.ofBits, Ideal.ieee, -EReal.coe_mul]; norm_num
theorem cb_eq : wordF 0xBFE26E98#32 = (cb : EReal) := by
  unfold cb; simp [wordF, Ideal.ofBits, Ideal.ieee, -EReal.coe_mul]; norm_num
theorem cc_eq : wordF 0xC05D9B4D#32 = (cc : EReal) := by
  unfold cc; simp [wordF, Ideal.ofBits, Ideal.ieee, -EReal.coe_mul]; norm_num
theorem ca_eq : wordF 0xBE93DD98#32 = (ca : EReal) := by
  unfold ca; simp [wordF, Ideal.ofBits, Ideal.ieee, -EReal.coe_mul]; norm_num
theorem one_eq : wordF 0x3F800000#32 = ((1 : ℝ) : EReal) := by
  simp [wordF, Ideal.ofBits, Ideal.ieee, -EReal.coe_mul]; norm_num
theorem two_eq : wordF 0x40000000#32 = ((2 : ℝ) : EReal) := by
  simp [wordF, Ideal.ofBits, Ideal.ieee, -EReal.coe_mul]; norm_num
theorem half_eq : wordF 0x3F000000#32 = ((1 / 2 : ℝ) : EReal) := by
  simp [wordF, Ideal.ofBits, Ideal.ieee, -EReal.coe_mul]; norm_num
theorem zero_eq : wordF 0#32 = ((0 : ℝ) : EReal) := by
  simp [wordF, Ideal.ofBits, Ideal.ieee, -EReal.coe_mul]
theorem mant_eq : wordF 0x46800000#32 = ((16384 : ℝ) : EReal) := by
  simp [wordF, Ideal.ofBits, Ideal.ieee, -EReal.coe_mul]; norm_num
theorem c127_eq : wordF 0x42FE0000#32 = ((127 : ℝ) : EReal) := by
  simp [wordF, Ideal.ofBits, Ideal.ieee, -EReal.coe_mul]; norm_num
theorem cm127_eq : wordF 0xC2FE0000#32 = ((-127 : ℝ) : EReal) := by
  simp [wordF, Ideal.ofBits, Ideal.ieee, -EReal.coe_mul]; norm_num

/-! ## Single operations at reals -/

theorem abs_eq (r : ℝ) : max (r : EReal) (-(r : EReal)) = ((|r| : ℝ) : EReal) := by
  rw [← EReal.coe_neg, abs_eq_max_neg]
  exact (EReal.coe_strictMono.monotone.map_max).symm

theorem div_real {y : ℝ} (h : y ≠ 0) (x : ℝ) : Ideal.div (x : EReal) (y : EReal) = ((x / y : ℝ) : EReal) := by
  rw [Ideal.div_coe h, ← EReal.coe_mul, mul_one_div]

theorem fl_real (x : ℝ) : fl (x : EReal) = (((⌊x⌋ : ℤ) : ℝ) : EReal) := rfl

theorem kEx_real {r : ℝ} {E : ℤ} (h : IsExp r E) (h1 : -126 ≤ E) (h2 : E ≤ 127) : kEx (r : EReal) = fieldWord (E + 127).toNat := by
  unfold kEx
  rw [abs_eq, search_eq h h1 h2]

theorem kNorm_real {r : ℝ} {E : ℤ} (h : IsExp r E) (h1 : -126 ≤ E) (h2 : E ≤ 100) :
    kNorm (r : EReal) = ((r * 2 ^ (-9 - E) : ℝ) : EReal) := by
  unfold kNorm
  rw [kEx_real h h1 (by omega)]
  have e : (2055208960#32) = fieldWord 245 := by unfold fieldWord; rfl
  unfold IntOp.subi wordF
  rw [e, fieldWord_sub (by omega), float_field (by omega) (by omega), ← EReal.coe_mul]
  have e2 : (((245 - (E + 127).toNat : ℕ) : ℤ) - 127) = -9 - E := by omega
  rw [e2]

theorem kPow_real {r : ℝ} {E : ℤ} (h : IsExp r E) (h1 : -126 ≤ E) (h2 : E ≤ 100) :
    kPow (r : EReal) = ((2 ^ (E + 9) : ℝ) : EReal) := by
  unfold kPow
  rw [kEx_real h h1 (by omega)]
  have e : (75497472#32) = fieldWord 9 := by unfold fieldWord; rfl
  unfold IntOp.addi wordF
  rw [e, fieldWord_add, float_field (by omega) (by omega)]
  congr 3
  omega

theorem rExp_real {r : ℝ} {E : ℤ} (h : IsExp r E) (h1 : -126 ≤ E) (h2 : E ≤ 127) : rExp (r : EReal) = BitVec.ofInt 32 (E + 1) := by
  have hp : (0 : ℝ) < |r| := abs_pos.2 h.ne_zero
  have hl : (0 : ℝ) < Real.log 2 := Real.log_pos (by norm_num)
  unfold rExp rLog
  rw [abs_eq, two_eq, Ideal.log_coe, Ideal.log_coe, if_neg (by linarith), if_neg (by norm_num), div_real hl.ne', fl_real,
    floor_log h, fptosi_int (by unfold InI32; omega)]
  exact addi_ofInt E 1

theorem rLdexp_real (r : ℝ) {t : ℤ} (ht : InI32 t) : rLdexp (r : EReal) (BitVec.ofInt 32 t) = ((r * 2 ^ t : ℝ) : EReal) := by
  unfold rLdexp valF
  rw [two_eq, toInt_ofInt ht, Ideal.pow_coe_coe, ← EReal.coe_mul]
  congr 2
  exact Real.rpow_intCast 2 t

theorem rT_real {r : ℝ} {E : ℤ} (h : IsExp r E) (h1 : -126 ≤ E) (h2 : E ≤ 127) : rT (r : EReal) = BitVec.ofInt 32 (-9 - E) := by
  unfold rT
  rw [rExp_real h h1 h2]
  have e : (4294967288#32) = BitVec.ofInt 32 (-8) := by decide
  rw [e, subi_ofInt]
  congr 1
  omega

/-- Both ways of scaling to `[2⁻⁹, 2⁻⁸)` agree. -/
theorem rLdexp_rT {r : ℝ} {E : ℤ} (h : IsExp r E) (h1 : -126 ≤ E) (h2 : E ≤ 100) :
    rLdexp (r : EReal) (rT (r : EReal)) = ((r * 2 ^ (-9 - E) : ℝ) : EReal) := by
  rw [rT_real h h1 (by omega), rLdexp_real r (by unfold InI32; omega)]

end Cert.Proof.Scalars
-- ==== Proof.Vectors.lean ====
/-
  The kernel's hidden block as operations on whole vectors of any shape: the exponent search, the integer GELU and the
  requantization, in the kernel's own order. At an index each is the scalar of `Scalars.lean`.
-/
module

public import proofs.«01_k».proof.Proof.Scalars

@[expose] public section

noncomputable section

namespace Cert.Proof.Vectors

open Idealize.ShloMosaic

variable {F : FTy → Type} [FloatOps F] {s : Shape}

/-- One step of the exponent search. -/
def vStep (a : FVec F s .f32) (f : IVec s 32) (w : BitVec 32) : IVec s 32 :=
  select (cmpf .oge a (bitcastToFloat .f32 (addi f (broadcast s w)))) (addi f (broadcast s w)) f

def vSearch (a : FVec F s .f32) : IVec s 32 :=
  vStep a (vStep a (vStep a (vStep a (vStep a (vStep a (vStep a (vStep a (broadcast s 0#32)
    1073741824#32) 536870912#32) 268435456#32) 134217728#32) 67108864#32) 33554432#32) 16777216#32) 8388608#32

/-- A float literal over the whole shape. -/
abbrev lit (s : Shape) (w : BitVec 32) : FVec F s .f32 := broadcast s (Scalar.ofBits .f32 w)

def vNorm (v : FVec F s .f32) : FVec F s .f32 :=
  mulf v (bitcastToFloat .f32 (subi (broadcast s 2055208960#32) (vSearch (absf v))))
def vPow (v : FVec F s .f32) : FVec F s .f32 :=
  bitcastToFloat .f32 (addi (vSearch (absf v)) (broadcast s 75497472#32))
def vSe (s1 : FVec F s .f32) : FVec F s .f32 := divf s1 (lit s 0x3FB50481#32)
def vB (se2 : FVec F s .f32) : FVec F s .f32 := floor (divf (lit s 0xBFE26E98#32) se2)
def vC (se2 : FVec F s .f32) : FVec F s .f32 := floor (divf (lit s 0xC05D9B4D#32) (mulf se2 se2))
def vErf0 (se2 : FVec F s .f32) : FVec F s .f32 := mulf (mulf se2 se2) (lit s 0xBE93DD98#32)
def vErf (s1 : FVec F s .f32) : FVec F s .f32 := vNorm (vErf0 (vNorm (vSe s1)))
def vOne (s1 : FVec F s .f32) : FVec F s .f32 := floor (divf (lit s 0x3F800000#32) (vErf s1))
def vMult (s1 hh : FVec F s .f32) : FVec F s .f32 := mulf (mulf s1 (vErf s1)) hh
def vQ (acc s1 b1 : FVec F s .f32) : IVec s 32 := addi (fptosi 32 acc) (fptosi 32 (roundeven (divf b1 s1)))
def vA (s1 qf : FVec F s .f32) : FVec F s .f32 := floor (mulf (absf qf) (vPow (vSe s1)))
def vD (s1 qf : FVec F s .f32) : FVec F s .f32 := minimumf (addf (vA s1 qf) (vB (vNorm (vSe s1)))) (lit s 0x00000000#32)
def vP (s1 qf : FVec F s .f32) : FVec F s .f32 := addf (mulf (vD s1 qf) (vD s1 qf)) (vC (vNorm (vSe s1)))
def vSp (s1 qf : FVec F s .f32) : FVec F s .f32 :=
  select (cmpf .olt qf (lit s 0x00000000#32)) (subf (lit s 0x00000000#32) (vP s1 qf)) (vP s1 qf)
def vE (s1 qf : FVec F s .f32) : FVec F s .f32 := floor (mulf (vSp s1 qf) (vPow (vErf0 (vNorm (vSe s1)))))
def vV (s1 : FVec F s .f32) (q : IVec s 32) : IVec s 32 :=
  shrsi (addi (muli q (fptosi 32 (addf (vE s1 (sitofp .f32 q)) (vOne s1)))) (broadcast s 8192#32)) (broadcast s 14#32)
def vM (mult : FVec F s .f32) : IVec s 32 :=
  fptosi 32 (roundeven (mulf mult (bitcastToFloat .f32 (subi (broadcast s 2239758336#32) (vSearch (absf mult))))))
def vK (k0 : BitVec 32) (mult : FVec F s .f32) : IVec s 32 :=
  subi (broadcast s k0) (shrui (vSearch (absf mult)) (broadcast s 23#32))
def vKs (mult : FVec F s .f32) : IVec s 32 :=
  subi (broadcast s 382#32) (addi (shrui (vSearch (absf mult)) (broadcast s 23#32))
    (select (cmpf .olt mult (lit s 0x00000000#32)) (broadcast s 256#32) (broadcast s 0#32)))
def vReq (v m k : IVec s 32) : IVec s 32 :=
  shrsi (addi (muli v m) (shli (broadcast s 1#32) (subi k (broadcast s 1#32)))) k
/-- The hidden elements before their clip. -/
def vHidden (acc s1 b1 hh : FVec F s .f32) : IVec s 32 :=
  vReq (vV s1 (vQ acc s1 b1)) (vM (vMult s1 hh)) (vKs (vMult s1 hh))
/-- The hidden codes as floats. -/
def vCode (r : IVec s 32) : FVec F s .f32 :=
  minimumf (lit s 0x42FE0000#32) (maximumf (lit s 0xC2FE0000#32) (sitofp .f32 r))

/-! ## At an index, over the extended reals -/

section Ops

variable (x y : FVec Ideal s .f32) (a b : IVec s 32) (c : IVec s 1) (i : s.Idx) (w : BitVec 32)

theorem op_mulf : mulf x y i = x i * y i := rfl
theorem op_addf : addf x y i = x i + y i := rfl
theorem op_subf : subf x y i = x i - y i := rfl
theorem op_divf : divf x y i = Ideal.div (x i) (y i) := rfl
theorem op_floor : floor x i = Scalars.fl (x i) := rfl
theorem op_roundeven : roundeven x i = Scalars.rne (x i) := rfl
theorem op_absf : absf x i = max (x i) (-(x i)) := rfl
theorem op_minimumf : minimumf x y i = min (x i) (y i) := rfl
theorem op_maximumf : maximumf x y i = max (x i) (y i) := rfl
theorem op_sitofp : sitofp (F := Ideal) .f32 a i = Scalars.valF (a i) := rfl
theorem op_fptosi : fptosi 32 x i = Ideal.fptosi 32 (x i) := rfl
theorem op_cmpf (p : CmpFPredicate) : cmpf p x y i = Ideal.cmp p (x i) (y i) := rfl
theorem op_selectf : select c x y i = Scalar.select (c i) (x i) (y i) := rfl
theorem op_selecti : select c a b i = Scalar.select (c i) (a i) (b i) := rfl
theorem op_addi : addi a b i = IntOp.addi (a i) (b i) := rfl
theorem op_subi : subi a b i = IntOp.subi (a i) (b i) := rfl
theorem op_muli : muli a b i = IntOp.muli (a i) (b i) := rfl
theorem op_shli : shli a b i = IntOp.shli .vector (a i) (b i) := rfl
theorem op_shrsi : shrsi a b i = IntOp.shrsi .vector (a i) (b i) := rfl
theorem op_shrui : shrui a b i = IntOp.shrui .vector (a i) (b i) := rfl
theorem op_splat : broadcast s w i = w := rfl
theorem op_lit : lit (F := Ideal) s w i = Scalars.wordF w := rfl
theorem op_bits : bitcastToFloat (F := Ideal) .f32 a i = Scalars.wordF (a i) := rfl

end Ops

section Apply

variable (v se2 s1 qf acc b1 hh mult : FVec Ideal s .f32) (q r : IVec s 32) (i : s.Idx)

theorem vStep_apply (f : IVec s 32) (w : BitVec 32) : vStep v f w i = Powers.step (v i) (f i) w := by
  unfold vStep Powers.step
  simp only [op_selecti, op_cmpf, op_bits, op_addi, op_splat]

theorem vSearch_apply : vSearch v i = Powers.search (v i) := by
  unfold vSearch Powers.search
  simp only [vStep_apply, op_splat]

theorem vEx_apply : vSearch (absf v) i = Scalars.kEx (v i) := by
  unfold Scalars.kEx
  rw [vSearch_apply, op_absf]

theorem vNorm_apply : vNorm v i = Scalars.kNorm (v i) := by
  unfold vNorm Scalars.kNorm
  simp only [op_mulf, op_bits, op_subi, op_splat, vEx_apply]

theorem vPow_apply : vPow v i = Scalars.kPow (v i) := by
  unfold vPow Scalars.kPow
  simp only [op_bits, op_addi, op_splat, vEx_apply]

theorem vSe_apply : vSe s1 i = Scalars.kSe (s1 i) := by
  unfold vSe Scalars.kSe
  simp only [op_divf, op_lit]

theorem vSe2_apply : vNorm (vSe s1) i = Scalars.kSe2 (s1 i) := by
  unfold Scalars.kSe2
  rw [vNorm_apply, vSe_apply]

theorem vB_apply : vB se2 i = Scalars.kB (se2 i) := by
  unfold vB Scalars.kB
  simp only [op_floor, op_divf, op_lit]

theorem vC_apply : vC se2 i = Scalars.kC (se2 i) := by
  unfold vC Scalars.kC
  simp only [op_floor, op_divf, op_lit, op_mulf]

theorem vErf0_apply : vErf0 se2 i = Scalars.kErf0 (se2 i) := by
  unfold vErf0 Scalars.kErf0
  simp only [op_lit, op_mulf]

theorem vErf_apply : vErf s1 i = Scalars.kErf (s1 i) := by
  unfold vErf Scalars.kErf
  rw [vNorm_apply, vErf0_apply, vSe2_apply]

theorem vOne_apply : vOne s1 i = Scalars.kOne (s1 i) := by
  unfold vOne Scalars.kOne
  simp only [op_floor, op_divf, op_lit, vErf_apply]

theorem vMult_apply : vMult s1 hh i = Scalars.kMult (s1 i) (hh i) := by
  unfold vMult Scalars.kMult
  simp only [op_mulf, vErf_apply]

theorem vQ_apply : vQ acc s1 b1 i = Scalars.kQ (acc i) (s1 i) (b1 i) := by
  unfold vQ Scalars.kQ
  simp only [op_addi, op_fptosi, op_roundeven, op_divf]

theorem vA_apply : vA s1 qf i = Scalars.kA (s1 i) (qf i) := by
  unfold vA Scalars.kA
  simp only [op_floor, op_mulf, op_absf, vPow_apply, vSe_apply]

theorem vD_apply : vD s1 qf i = Scalars.kD (s1 i) (qf i) := by
  unfold vD Scalars.kD
  simp only [op_minimumf, op_addf, op_lit, vA_apply, vB_apply, vSe2_apply]

theorem vP_apply : vP s1 qf i = Scalars.kP (s1 i) (qf i) := by
  unfold vP Scalars.kP
  simp only [op_mulf, op_addf, vD_apply, vC_apply, vSe2_apply]

theorem vSp_apply : vSp s1 qf i = Scalars.kSp (s1 i) (qf i) := by
  unfold vSp Scalars.kSp
  simp only [op_selectf, op_cmpf, op_subf, op_lit, vP_apply]

theorem vE_apply : vE s1 qf i = Scalars.kE (s1 i) (qf i) := by
  unfold vE Scalars.kE
  simp only [op_floor, op_mulf, vSp_apply, vPow_apply, vErf0_apply, vSe2_apply]

theorem vV_apply : vV s1 q i = Scalars.kV (s1 i) (q i) := by
  unfold vV Scalars.kV
  simp only [op_shrsi, op_addi, op_muli, op_fptosi, op_addf, op_splat, op_sitofp, vE_apply, vOne_apply]

theorem vM_apply : vM mult i = Scalars.kM (mult i) := by
  unfold vM Scalars.kM
  simp only [op_fptosi, op_roundeven, op_mulf, op_bits, op_subi, op_splat, vEx_apply]

theorem vK_apply (k0 : BitVec 32) : vK k0 mult i = Scalars.kK k0 (mult i) := by
  unfold vK Scalars.kK
  simp only [op_shrui, op_subi, op_splat, vEx_apply]

theorem vKs_apply : vKs mult i = Scalars.kKs (mult i) := by
  unfold vKs Scalars.kKs
  simp only [op_shrui, op_subi, op_addi, op_splat, op_selecti, op_cmpf, op_lit, vEx_apply]

theorem vReq_apply (v m k : IVec s 32) : vReq v m k i = Scalars.kReq (v i) (m i) (k i) := by
  unfold vReq Scalars.kReq
  simp only [op_shrsi, op_addi, op_muli, op_shli, op_subi, op_splat]

/-- An element of the hidden block is the scalar computation of that element. -/
theorem vHidden_apply : vHidden acc s1 b1 hh i = Scalars.kHidden (acc i) (s1 i) (b1 i) (hh i) := by
  unfold vHidden Scalars.kHidden
  simp only [vReq_apply, vV_apply, vQ_apply, vM_apply, vKs_apply, vMult_apply]

theorem vCode_apply : (vCode (F := Ideal) r) i = Scalars.kCode (r i) := by
  unfold vCode Scalars.kCode
  simp only [op_minimumf, op_maximumf, op_lit, op_sitofp]

end Apply

end Cert.Proof.Vectors
-- ==== Proof.Gelu.lean ====
/-
  The integer GELU of one element: the kernel's float computation and the reference's integer computation give the same
  word, for a step `s1` in `[2⁻¹²⁵, 2⁻⁸]` and a code `q` other than the least 32-bit word.
-/
module

public import proofs.«01_k».proof.Proof.Scalars

@[expose] public section

noncomputable section

namespace Cert.Proof.Gelu

open Idealize.ShloMosaic Cert.Proof.Words Cert.Proof.Powers Cert.Proof.Scalars

/-- What both sides derive from a step `r`: the exponent `E` of the error function's step, its mantissa `u`, and the
    exponent `D` of the error function's squared step. -/
structure Step (r : ℝ) where
  E : ℤ
  D : ℤ
  hE : IsExp (r / sigma) E
  hE1 : -126 ≤ E
  hE2 : E ≤ -9
  u : ℝ
  hu : u = r / sigma * 2 ^ (-9 - E)
  hu1 : 1 / 512 ≤ u
  hu2 : u < 1 / 256
  hD : IsExp (u * u * ca) D
  hD1 : -20 ≤ D
  hD2 : D ≤ -18

theorem two_pow_neg9 : (2 : ℝ) ^ (-9 : ℤ) = 1 / 512 := by norm_num
theorem two_pow_neg8 : (2 : ℝ) ^ (-8 : ℤ) = 1 / 256 := by norm_num

theorem norm_bounds {r : ℝ} {E : ℤ} (h : IsExp r E) :
    1 / 512 ≤ |r * 2 ^ (-9 - E)| ∧ |r * 2 ^ (-9 - E)| < 1 / 256 := by
  have := h.scale (-9 - E)
  unfold IsExp at this
  rw [show E + (-9 - E) = -9 by ring, show (-9 : ℤ) + 1 = -8 by ring, two_pow_neg9, two_pow_neg8] at this
  exact this

theorem Step.exists {r : ℝ} (h1 : (2 : ℝ) ^ (-125 : ℤ) ≤ r) (h2 : r ≤ (2 : ℝ) ^ (-8 : ℤ)) : Nonempty (Step r) := by
  have hp : (0 : ℝ) < 2 ^ (-125 : ℤ) := by positivity
  have hs1 : (1 : ℝ) < sigma := by unfold sigma; norm_num
  have hs2 : sigma < 2 := by unfold sigma; norm_num
  have hq : 0 < r / sigma := by positivity
  obtain ⟨E, hE⟩ := IsExp.exists hq.ne'
  have hE1 : -126 ≤ E := by
    apply hE.ge
    rw [abs_of_pos hq, le_div_iff₀ (by linarith)]
    have : (2 : ℝ) ^ (-125 : ℤ) = 2 ^ (-126 : ℤ) * 2 := by
      rw [show (-125 : ℤ) = -126 + 1 by norm_num, zpow_add_one₀ (by norm_num)]
    have hp2 : (0 : ℝ) < 2 ^ (-126 : ℤ) := by positivity
    nlinarith
  have hE2 : E < -8 := by
    apply hE.lt
    rw [abs_of_pos hq, div_lt_iff₀ (by linarith)]
    have hp2 : (0 : ℝ) < 2 ^ (-8 : ℤ) := by positivity
    nlinarith
  have hb := norm_bounds hE
  have hu0 : 0 < r / sigma * 2 ^ (-9 - E) := by positivity
  rw [abs_of_pos hu0] at hb
  obtain ⟨u, hu⟩ : ∃ u, u = r / sigma * 2 ^ (-9 - E) := ⟨_, rfl⟩
  rw [← hu] at hb hu0
  have huu1 : 1 / 512 * (1 / 512) ≤ u * u := mul_le_mul hb.1 hb.1 (by norm_num) (by linarith)
  have huu2 : u * u ≤ 1 / 256 * (1 / 256) := mul_le_mul hb.2.le hb.2.le hu0.le (by norm_num)
  have habs : |u * u * ca| = u * u * (9690520 / 33554432) := by
    unfold ca
    rw [abs_mul, abs_of_pos (by positivity)]
    congr 1
    norm_num
  obtain ⟨D, hD⟩ := IsExp.exists (r := u * u * ca) (by
    intro h0
    rw [h0, abs_zero] at habs
    have : 0 < u * u := by positivity
    linarith)
  have e20 : (2 : ℝ) ^ (-20 : ℤ) = 1 / 1048576 := by norm_num
  have e17 : (2 : ℝ) ^ (-17 : ℤ) = 1 / 131072 := by norm_num
  have hD1 : -20 ≤ D := by
    apply hD.ge
    rw [habs, e20]
    linarith
  have hD2 : D < -17 := by
    apply hD.lt
    rw [habs, e17]
    linarith
  exact ⟨⟨E, D, hE, hE1, by omega, u, hu, hb.1, hb.2, hD, hD1, by omega⟩⟩

/-- The floor of an integer times a negative power of two is the integer division. -/
theorem floor_pow (z : ℤ) (n : ℕ) : ⌊(z : ℝ) * 2 ^ (-(n : ℤ))⌋ = z / 2 ^ n := by
  rw [zpow_neg, zpow_natCast, ← div_eq_mul_inv]
  have := Int.floor_div_natCast (z : ℝ) (2 ^ n)
  push_cast at this
  rw [this, Int.floor_intCast]

namespace Step

variable {r : ℝ} (S : Step r)

include S

theorem u_pos : 0 < S.u := lt_of_lt_of_le (by norm_num) S.hu1

/-- The error function's step after scaling. -/
def erf : ℝ := S.u * S.u * ca * 2 ^ (-9 - S.D)

def b : ℤ := ⌊cb / S.u⌋
def c : ℤ := ⌊cc / (S.u * S.u)⌋
def one : ℤ := ⌊1 / S.erf⌋

theorem kSe_eq : kSe (r : EReal) = ((r / sigma : ℝ) : EReal) := by
  unfold kSe
  rw [sigma_eq, div_real (by unfold sigma; norm_num)]

theorem kSe2_eq : kSe2 (r : EReal) = (S.u : EReal) := by
  unfold kSe2
  rw [S.kSe_eq, kNorm_real S.hE S.hE1 (by have := S.hE2; omega), ← S.hu]

theorem rSe2_eq : rSe2 (r : EReal) = (S.u : EReal) := by
  unfold rSe2
  rw [S.kSe_eq, rLdexp_rT S.hE S.hE1 (by have := S.hE2; omega), ← S.hu]

theorem kErf0_eq : kErf0 (S.u : EReal) = ((S.u * S.u * ca : ℝ) : EReal) := by
  unfold kErf0
  rw [ca_eq, ← EReal.coe_mul, ← EReal.coe_mul]

theorem kErf_eq : kErf (r : EReal) = (S.erf : EReal) := by
  unfold kErf
  rw [S.kSe2_eq, S.kErf0_eq, kNorm_real S.hD (by have := S.hD1; omega) (by have := S.hD2; omega)]
  rfl

theorem rErf_eq : rErf (r : EReal) = (S.erf : EReal) := by
  unfold rErf
  rw [S.rSe2_eq, S.kErf0_eq, rLdexp_rT S.hD (by have := S.hD1; omega) (by have := S.hD2; omega)]
  rfl

theorem erf_abs : 1 / 512 ≤ |S.erf| ∧ |S.erf| < 1 / 256 := norm_bounds S.hD

theorem erf_neg : S.erf < 0 := by
  unfold erf ca
  have := S.u_pos
  have h2 : (0 : ℝ) < 2 ^ (-9 - S.D) := by positivity
  have : 0 < S.u * S.u * 2 ^ (-9 - S.D) := by positivity
  nlinarith

theorem kB_eq : kB (S.u : EReal) = ((S.b : ℝ) : EReal) := by
  unfold kB
  rw [cb_eq, div_real S.u_pos.ne', fl_real]; rfl

theorem kC_eq : kC (S.u : EReal) = ((S.c : ℝ) : EReal) := by
  unfold kC
  rw [cc_eq, ← EReal.coe_mul, div_real (mul_pos S.u_pos S.u_pos).ne', fl_real]; rfl

theorem kOne_eq : kOne (r : EReal) = ((S.one : ℝ) : EReal) := by
  unfold kOne
  rw [S.kErf_eq, one_eq, div_real S.erf_neg.ne, fl_real]; rfl

theorem b_bounds : -1000 ≤ S.b ∧ S.b < 0 := by
  have hu := S.u_pos
  unfold b
  constructor
  · rw [Int.le_floor, le_div_iff₀ hu]
    have := S.hu1
    unfold cb
    push_cast
    linarith
  · rw [Int.floor_lt, div_lt_iff₀ hu]
    unfold cb
    norm_num

theorem c_bounds : -1000000 ≤ S.c ∧ S.c < 0 := by
  have hu := S.u_pos
  have huu : 0 < S.u * S.u := by positivity
  have huu1 : 1 / 512 * (1 / 512) ≤ S.u * S.u := mul_le_mul S.hu1 S.hu1 (by norm_num) hu.le
  unfold c
  constructor
  · rw [Int.le_floor, le_div_iff₀ huu]
    unfold cc
    push_cast
    linarith
  · rw [Int.floor_lt, div_lt_iff₀ huu]
    unfold cc
    norm_num

theorem one_bounds : -1000 ≤ S.one ∧ S.one < 0 := by
  have h := S.erf_neg
  have h2 := S.erf_abs
  rw [abs_of_neg h] at h2
  unfold one
  constructor
  · rw [Int.le_floor, le_div_iff_of_neg h]
    push_cast
    linarith
  · rw [Int.floor_lt, div_lt_iff_of_neg h]
    norm_num

theorem rB_eq : rB (r : EReal) = BitVec.ofInt 32 S.b := by
  unfold rB
  rw [S.rSe2_eq, S.kB_eq, fptosi_int (by have := S.b_bounds; unfold InI32; omega)]

theorem rC_eq : rC (r : EReal) = BitVec.ofInt 32 S.c := by
  unfold rC
  rw [S.rSe2_eq, S.kC_eq, fptosi_int (by have := S.c_bounds; unfold InI32; omega)]

theorem rOne_eq : rOne (r : EReal) = BitVec.ofInt 32 S.one := by
  unfold rOne
  rw [S.rErf_eq, one_eq, div_real S.erf_neg.ne, fl_real, fptosi_int (by have := S.one_bounds; unfold InI32 one at *; omega)]
  rfl

/-- The error function's argument, its square and the polynomial's value, as integers. -/
def A (Q : ℤ) : ℤ := |Q| / 2 ^ (-9 - S.E).toNat
def d (Q : ℤ) : ℤ := min (S.A Q + S.b) 0
def P (Q : ℤ) : ℤ := S.d Q * S.d Q + S.c

theorem d_bounds (Q : ℤ) : -1000 ≤ S.d Q ∧ S.d Q ≤ 0 := by
  have h := S.b_bounds
  have hA : 0 ≤ S.A Q := by unfold A; positivity
  unfold d
  omega

theorem P_bounds (Q : ℤ) : -1000000 ≤ S.P Q ∧ S.P Q ≤ 1000000 := by
  have h := S.d_bounds Q
  have hc := S.c_bounds
  unfold P
  constructor <;> nlinarith

theorem kA_eq (Q : ℤ) : kA (r : EReal) (((Q : ℤ) : ℝ) : EReal) = (((S.A Q : ℤ) : ℝ) : EReal) := by
  have hE2 := S.hE2
  unfold kA
  rw [abs_eq, S.kSe_eq, kPow_real S.hE S.hE1 (by omega), ← EReal.coe_mul, fl_real]
  unfold A
  rw [← floor_pow, Int.cast_abs, show S.E + 9 = -(((-9 - S.E).toNat : ℕ) : ℤ) by omega]

theorem coe_min (x y : ℝ) : min (x : EReal) (y : EReal) = ((min x y : ℝ) : EReal) := (EReal.coe_strictMono.monotone.map_min).symm

theorem kD_eq (Q : ℤ) : kD (r : EReal) (((Q : ℤ) : ℝ) : EReal) = (((S.d Q : ℤ) : ℝ) : EReal) := by
  unfold kD
  rw [S.kA_eq, S.kSe2_eq, S.kB_eq, zero_eq, ← EReal.coe_add, S.coe_min]
  unfold d
  push_cast
  rfl

theorem kP_eq (Q : ℤ) : kP (r : EReal) (((Q : ℤ) : ℝ) : EReal) = (((S.P Q : ℤ) : ℝ) : EReal) := by
  unfold kP
  rw [S.kD_eq, S.kSe2_eq, S.kC_eq, ← EReal.coe_mul, ← EReal.coe_add]
  unfold P
  push_cast
  rfl

theorem kSp_eq (Q : ℤ) : kSp (r : EReal) (((Q : ℤ) : ℝ) : EReal) = (((if Q < 0 then -S.P Q else S.P Q : ℤ) : ℝ) : EReal) := by
  unfold kSp
  rw [S.kP_eq, zero_eq, ← EReal.coe_sub]
  have hc : Ideal.cmp .olt (((Q : ℤ) : ℝ) : EReal) ((0 : ℝ) : EReal) = BitVec.ofBool (decide (Q < 0)) := by
    show BitVec.ofBool (decide ((((Q : ℤ) : ℝ) : EReal) < ((0 : ℝ) : EReal))) = _
    congr 2
    rw [EReal.coe_lt_coe_iff]
    exact propext (by exact_mod_cast Iff.rfl)
  rw [hc]
  by_cases h : Q < 0 <;> simp [Scalar.select, h]

theorem kE_eq (Q : ℤ) : kE (r : EReal) (((Q : ℤ) : ℝ) : EReal) =
    ((((if Q < 0 then -S.P Q else S.P Q) / 2 ^ (-9 - S.D).toNat : ℤ) : ℝ) : EReal) := by
  have hD2 := S.hD2
  have hD1 := S.hD1
  unfold kE
  rw [S.kSp_eq, S.kSe2_eq, S.kErf0_eq, kPow_real S.hD (by omega) (by omega), ← EReal.coe_mul, fl_real, ← floor_pow,
    show S.D + 9 = -(((-9 - S.D).toNat : ℕ) : ℤ) by omega]

theorem div_bounds {z : ℤ} (h : -1000000 ≤ z ∧ z ≤ 1000000) (n : ℕ) : -1000000 ≤ z / 2 ^ n ∧ z / 2 ^ n ≤ 1000000 := by
  have h2 : (1 : ℤ) ≤ 2 ^ n := one_le_pow₀ (by norm_num)
  constructor
  · refine (Int.le_ediv_iff_mul_le (by positivity)).2 ?_
    nlinarith
  · refine Int.ediv_le_of_le_mul (by positivity) ?_
    nlinarith

/-- The kernel's word. -/
theorem kV_eq {q : BitVec 32} : kV (r : EReal) q =
    IntOp.shrsi .vector (IntOp.addi (IntOp.muli q (BitVec.ofInt 32
      ((if q.toInt < 0 then -S.P q.toInt else S.P q.toInt) / 2 ^ (-9 - S.D).toNat + S.one))) 8192#32) 14#32 := by
  have hP := S.P_bounds q.toInt
  have h1 := S.one_bounds
  unfold kV valF
  rw [S.kE_eq, S.kOne_eq, ← EReal.coe_add, ← Int.cast_add, fptosi_int]
  have := S.div_bounds (z := if q.toInt < 0 then -S.P q.toInt else S.P q.toInt) (by split <;> omega) (-9 - S.D).toNat
  unfold InI32
  omega

theorem rT_E : rT (kSe (r : EReal)) = BitVec.ofInt 32 (((-9 - S.E).toNat : ℕ) : ℤ) := by
  have h1 := S.hE1
  have h2 := S.hE2
  rw [S.kSe_eq, rT_real S.hE (by omega) (by omega)]
  congr 1
  omega

theorem rT_D : rT (kErf0 (rSe2 (r : EReal))) = BitVec.ofInt 32 (((-9 - S.D).toNat : ℕ) : ℤ) := by
  have h1 := S.hD1
  have h2 := S.hD2
  rw [S.rSe2_eq, S.kErf0_eq, rT_real S.hD (by omega) (by omega)]
  congr 1
  omega

theorem rShift_eq {x : ℤ} (hx : InI32 x) {n : ℕ} (hn : n < 1000) :
    rShift (BitVec.ofInt 32 x) (BitVec.ofInt 32 (n : ℤ)) = BitVec.ofInt 32 (x / 2 ^ n) := by
  have h0 : (0#32) = BitVec.ofInt 32 0 := by decide
  have hn' : InI32 (n : ℤ) := by unfold InI32; omega
  unfold rShift
  rw [h0, sge_ofInt hn' (by unfold InI32; omega) (by omega), maxsi_ofInt hn' (by unfold InI32; omega), max_eq_left (by omega),
    shrsi_ofInt .host hx (by omega)]
  simp [Scalar.select]

theorem rD_eq {q : BitVec 32} (hq : |q.toInt| < 2147483648) : rD (r : EReal) q = BitVec.ofInt 32 (S.d q.toInt) := by
  have hb := S.b_bounds
  have h1 := S.hE1
  have h2 := S.hE2
  have hA0 : 0 ≤ |q.toInt| := abs_nonneg _
  have hA : 0 ≤ S.A q.toInt ∧ S.A q.toInt < 2147483648 := by
    unfold A
    refine ⟨by positivity, lt_of_le_of_lt (Int.ediv_le_self _ hA0) hq⟩
  unfold rD
  rw [S.rT_E, S.rB_eq]
  have hqq : IntOp.absi q = BitVec.ofInt 32 |q.toInt| := by
    conv_lhs => rw [← ofInt_toInt q]
    exact absi_ofInt (inI32_toInt q)
  rw [hqq, S.rShift_eq (by unfold InI32; omega) (by omega), neg_ofInt]
  have : |q.toInt| / 2 ^ (-9 - S.E).toNat = S.A q.toInt := rfl
  rw [this, minsi_ofInt (by unfold InI32; omega) (by unfold InI32; omega), addi_ofInt]
  congr 1
  unfold d
  omega

theorem rP_eq {q : BitVec 32} (hq : |q.toInt| < 2147483648) : rP (r : EReal) q = BitVec.ofInt 32 (S.P q.toInt) := by
  unfold rP
  rw [S.rD_eq hq, S.rC_eq, muli_ofInt, addi_ofInt]
  rfl

theorem rSign_eq (q : BitVec 32) : rSign q = BitVec.ofInt 32 (if q.toInt = 0 then 0 else if q.toInt < 0 then -1 else 1) := by
  have hz : q = 0 ↔ q.toInt = 0 := by
    constructor
    · intro h; rw [h]; rfl
    · intro h
      apply BitVec.eq_of_toInt_eq
      rw [h]; rfl
  have hm : q.msb = decide (q.toInt < 0) := BitVec.msb_eq_toInt
  unfold rSign
  rw [hm]
  by_cases h : q.toInt = 0
  · rw [if_pos (hz.2 h), if_pos h]; rfl
  · rw [if_neg (fun h' => h (hz.1 h')), if_neg h]
    by_cases h2 : q.toInt < 0 <;> simp [h2] <;> rfl

theorem rE_eq {q : BitVec 32} (hq : |q.toInt| < 2147483648) : rE (r : EReal) q =
    BitVec.ofInt 32 ((if q.toInt = 0 then 0 else if q.toInt < 0 then -S.P q.toInt else S.P q.toInt) / 2 ^ (-9 - S.D).toNat) := by
  have hP := S.P_bounds q.toInt
  have h1 := S.hD1
  have h2 := S.hD2
  unfold rE
  rw [S.rT_D, S.rP_eq hq, S.rSign_eq, muli_ofInt]
  have : ∀ a : ℤ, (if q.toInt = 0 then 0 else if q.toInt < 0 then -1 else 1) * a =
      if q.toInt = 0 then 0 else if q.toInt < 0 then -a else a := by
    intro a
    split_ifs <;> ring
  rw [this, shrsi_ofInt .host (by unfold InI32; split_ifs <;> omega) (by omega)]

/-- The kernel's and the reference's GELU are the same word. -/
theorem gelu_eq {q : BitVec 32} (hq : |q.toInt| < 2147483648) : kV (r : EReal) q = rV (r : EReal) q := by
  rw [S.kV_eq]
  unfold rV rPre
  have h8192 : IntOp.shrsi .host (IntOp.shli .host 1#32 14#32) 1#32 = 8192#32 := by decide
  rw [h8192, S.rE_eq hq, S.rOne_eq, addi_ofInt, shrsi_unit .vector .host]
  congr 2
  by_cases h : q.toInt = 0
  · have : q = 0#32 := by
      apply BitVec.eq_of_toInt_eq
      rw [h]; rfl
    unfold IntOp.muli
    rw [this, BitVec.zero_mul, BitVec.zero_mul]
  · simp only [h, if_false]

end Step

end Cert.Proof.Gelu
-- ==== Proof.Requant.lean ====
/-
  The requantization of one element by a dyadic number `m / 2 ^ k`: the kernel's mantissa and shift amount are the
  reference's. With the GELU this gives the hidden element: the kernel's word is the reference's.
-/
module

public import proofs.«01_k».proof.Proof.Gelu

@[expose] public section

noncomputable section

namespace Cert.Proof.Requant

open Idealize.ShloMosaic Cert.Proof.Words Cert.Proof.Powers Cert.Proof.Scalars Cert.Proof.Gelu

theorem kM_eq {μ : ℝ} {E : ℤ} (h : IsExp μ E) (h1 : -110 ≤ E) (h2 : E ≤ 100) :
    kM (μ : EReal) = rM (μ : EReal) := by
  unfold kM rM
  rw [kEx_real h (by omega) (by omega), rExp_real h (by omega) (by omega), neg_ofInt, rLdexp_real μ (by unfold InI32; omega),
    mant_eq, ← EReal.coe_mul]
  have e : (2239758336#32) = fieldWord 267 := by unfold fieldWord; rfl
  have e2 : (((267 - (E + 127).toNat : ℕ) : ℤ) - 127) = 13 - E := by omega
  unfold IntOp.subi wordF
  rw [e, fieldWord_sub (by omega), float_field (by omega) (by omega), ← EReal.coe_mul, e2]
  have e3 : μ * (2 : ℝ) ^ (13 - E) = μ * 2 ^ (-(E + 1)) * 16384 := by
    rw [mul_assoc, show (13 - E : ℤ) = -(E + 1) + 14 by ring, zpow_add₀ (by norm_num)]
    norm_num
  rw [e3]

theorem kK_eq {μ : ℝ} {E : ℤ} (h : IsExp μ E) (h1 : -110 ≤ E) (h2 : E ≤ 100) (a b : ℤ) (hab : a = b + 126) :
    kK (BitVec.ofInt 32 a) (μ : EReal) = rK (BitVec.ofInt 32 b) (μ : EReal) := by
  unfold kK rK
  rw [kEx_real h (by omega) (by omega), rExp_real h (by omega) (by omega), subi_ofInt]
  have hs : IntOp.shrui .vector (fieldWord (E + 127).toNat) 23#32 = BitVec.ofInt 32 (E + 127) := by
    have h23 : (23#32).toNat < 32 := by decide
    unfold IntOp.shrui
    rw [if_pos h23]
    apply BitVec.eq_of_toNat_eq
    unfold fieldWord
    rw [BitVec.ushiftRight_eq', BitVec.toNat_ushiftRight, BitVec.toNat_ofNat, BitVec.toNat_ofInt, show (23#32).toNat = 23 from rfl,
      Nat.shiftRight_eq_div_pow]
    omega
  rw [hs, subi_ofInt]
  congr 1
  omega

/-- Of a negative multiplier the sign bit takes the 256 off again. -/
theorem kKs_neg {μ : ℝ} (h : μ < 0) : kKs (μ : EReal) = kK 126#32 (μ : EReal) := by
  have hc : Ideal.cmp .olt (μ : EReal) (wordF 0#32) = 1#1 := by
    rw [zero_eq]
    show BitVec.ofBool (decide ((μ : EReal) < ((0 : ℝ) : EReal))) = 1#1
    rw [decide_eq_true (EReal.coe_lt_coe_iff.2 h)]
    rfl
  unfold kKs kK
  rw [hc]
  show (382#32 : BitVec 32) - (_ + 256#32) = 126#32 - _
  generalize IntOp.shrui .vector (kEx (μ : EReal)) 23#32 = w
  rw [show (382#32 : BitVec 32) = 126#32 + 256#32 by decide]
  abel

theorem kReq_eq (v m k : BitVec 32) : kReq v m k = rReq v m k := by
  unfold kReq rReq
  rw [shrsi_unit .vector .host, shli_unit .vector .host]

theorem rne_real (x : ℝ) : rne (x : EReal) = (((Ideal.roundHalfEven x : ℤ) : ℝ) : EReal) := rfl

theorem rne_bounds (x : ℝ) : x - 1 ≤ (Ideal.roundHalfEven x : ℝ) ∧ (Ideal.roundHalfEven x : ℝ) ≤ x + 1 := by
  have h1 := Int.floor_le x
  have h2 := Int.lt_floor_add_one x
  have h3 := Int.le_ceil x
  have h4 := Int.ceil_lt_add_one x
  unfold Ideal.roundHalfEven
  dsimp only
  split_ifs <;> push_cast <;> constructor <;> linarith

/-- The code before the GELU stays off the least word. -/
theorem kQ_bound {z : ℤ} (hz : |z| ≤ 67108864) {r β : ℝ} (hr : r ≠ 0) (hb : |β / r| ≤ 1073741824) :
    |(kQ (((z : ℝ)) : EReal) (r : EReal) (β : EReal)).toInt| < 2147483648 := by
  obtain ⟨b1, b2⟩ := abs_le.1 hb
  obtain ⟨z1, z2⟩ := abs_le.1 hz
  obtain ⟨n1, n2⟩ := rne_bounds (β / r)
  have n1' : -1073741825 ≤ Ideal.roundHalfEven (β / r) := by
    have : (-1073741825 : ℝ) ≤ (Ideal.roundHalfEven (β / r) : ℝ) := by linarith
    exact_mod_cast this
  have n2' : Ideal.roundHalfEven (β / r) ≤ 1073741825 := by
    have : (Ideal.roundHalfEven (β / r) : ℝ) ≤ (1073741825 : ℝ) := by linarith
    exact_mod_cast this
  unfold kQ
  rw [div_real hr, rne_real, fptosi_int (by unfold InI32; omega), fptosi_int (by unfold InI32; omega), addi_ofInt,
    toInt_ofInt (by unfold InI32; omega), abs_lt]
  constructor <;> omega

/-- What the precondition says of one hidden element. -/
structure InRange (r β η : ℝ) : Prop where
  lo : (2 : ℝ) ^ (-125 : ℤ) ≤ r
  hi : r ≤ (2 : ℝ) ^ (-8 : ℤ)
  bias : |β / r| ≤ 1073741824
  mlo : (2 : ℝ) ^ (-100 : ℤ) ≤ r / η
  mhi : r / η ≤ (2 : ℝ) ^ (100 : ℤ)

/-- The kernel's hidden element is the reference's. -/
theorem kHidden_eq {z : ℤ} (hz : |z| ≤ 67108864) {r β η : ℝ} (H : InRange r β η) :
    kHidden ((z : ℝ) : EReal) (r : EReal) (β : EReal) (((1 / 2 : ℝ) : EReal) * Ideal.div ((1 : ℝ) : EReal) (η : EReal)) =
      rHidden ((z : ℝ) : EReal) (r : EReal) (β : EReal) (η : EReal) := by
  obtain ⟨S⟩ := Step.exists H.lo H.hi
  have hr : 0 < r := lt_of_lt_of_le (by positivity) H.lo
  have hη : η ≠ 0 := by
    intro h0
    have := H.mlo
    rw [h0, div_zero] at this
    have h2 : (0 : ℝ) < 2 ^ (-100 : ℤ) := by positivity
    linarith
  obtain ⟨μ, hμ⟩ : ∃ μ : ℝ, μ = r * S.erf * (1 / 2) / η := ⟨_, rfl⟩
  have hk : kMult (r : EReal) (((1 / 2 : ℝ) : EReal) * Ideal.div ((1 : ℝ) : EReal) (η : EReal)) = (μ : EReal) := by
    unfold kMult
    rw [S.kErf_eq, div_real hη, ← EReal.coe_mul, ← EReal.coe_mul, ← EReal.coe_mul, hμ]
    congr 1
    field_simp
  have hrm : rMult (r : EReal) (η : EReal) = (μ : EReal) := by
    unfold rMult
    rw [S.rErf_eq, half_eq, ← EReal.coe_mul, ← EReal.coe_mul, div_real hη, hμ]
  obtain ⟨e1, e2⟩ := S.erf_abs
  have habs : |μ| = |r / η| * (|S.erf| * (1 / 2)) := by
    rw [hμ, show r * S.erf * (1 / 2) / η = r / η * (S.erf * (1 / 2)) by ring, abs_mul, abs_mul S.erf, abs_of_pos (by norm_num : (0 : ℝ) < 1 / 2)]
  have hp : (0 : ℝ) < 2 ^ (-100 : ℤ) := by positivity
  have hp1 : 0 < r / η := lt_of_lt_of_le hp H.mlo
  have hp0 : 0 < |r / η| := abs_pos.2 hp1.ne'
  have hneg : μ < 0 := by
    rw [hμ, show r * S.erf * (1 / 2) / η = r / η * (S.erf * (1 / 2)) by ring]
    exact mul_neg_of_pos_of_neg hp1 (by linarith [S.erf_neg])
  have hm1 : (2 : ℝ) ^ (-110 : ℤ) ≤ |μ| := by
    rw [habs, show (-110 : ℤ) = -100 + -10 by norm_num, zpow_add₀ (by norm_num)]
    exact mul_le_mul (le_trans H.mlo (le_abs_self _)) (by norm_num; linarith) (by positivity) hp0.le
  have hm2 : |μ| < (2 : ℝ) ^ (100 : ℤ) := by
    rw [habs]
    have : |r / η| * (|S.erf| * (1 / 2)) < |r / η| * 1 := by
      apply mul_lt_mul_of_pos_left _ hp0
      linarith
    rw [mul_one] at this
    exact lt_of_lt_of_le this ((abs_of_pos hp1).trans_le H.mhi)
  obtain ⟨E, hE⟩ := IsExp.exists (r := μ) (by
    intro h0
    rw [h0, abs_zero] at hm1
    have : (0 : ℝ) < 2 ^ (-110 : ℤ) := by positivity
    linarith)
  have hE1 : -110 ≤ E := hE.ge hm1
  have hE2 : E < 100 := hE.lt hm2
  unfold kHidden rHidden
  rw [hk, hrm, S.gelu_eq (kQ_bound hz hr.ne' H.bias), kM_eq hE hE1 (by omega)]
  have ek := kK_eq hE hE1 (by omega) 126 0 (by norm_num)
  rw [show BitVec.ofInt 32 126 = 126#32 by decide, show BitVec.ofInt 32 0 = 0#32 by decide] at ek
  rw [kKs_neg hneg, ek, kReq_eq]

/-- The eight bits of the float code are the clipped word's, and the float code is their value. -/
theorem kCode_eq (w : BitVec 32) : kCode w = ((((clipWord w).setWidth 8).toInt : ℝ) : EReal) := by
  unfold kCode valF
  rw [c127_eq, cm127_eq, setWidth_clipWord]
  have hmin : ∀ x y : ℝ, min (x : EReal) (y : EReal) = ((min x y : ℝ) : EReal) := fun x y => (EReal.coe_strictMono.monotone.map_min).symm
  have hmax : ∀ x y : ℝ, max (x : EReal) (y : EReal) = ((max x y : ℝ) : EReal) := fun x y => (EReal.coe_strictMono.monotone.map_max).symm
  rw [hmax, hmin]
  push_cast
  rfl

theorem kCode_bits (w : BitVec 32) : (Ideal.fptosi 32 (kCode w)).setWidth 8 = (clipWord w).setWidth 8 := by
  rw [kCode_eq, setWidth_clipWord]
  exact clip_float w

end Cert.Proof.Requant
-- ==== Proof.Tile.lean ====
/-
  The tiles the kernel stores, read at an index. A tile of the hidden block, computed from the rows and the columns it
  loads, holds at each index the scalar computation of that element of the block; a tile of the output block likewise.
-/
module

public import proofs.«01_k».proof.Proof.Vectors
public import proofs.«01_k».proof.Proof.Requant
public import proofs.«01_k».proof.Proof.Gen.KernelIdeal.Skeleton
public import Idealize.ShloMosaic.Lib.ValueIdx
public import Idealize.ShloMosaic.Lib.Pipeline.Value
public import Idealize.ShloMosaic.Lib.Pipeline.ValueKit.Tiles

@[expose] public section

noncomputable section

namespace Cert.Proof.Tile

open Idealize.ShloMosaic Idealize.ShloMosaic.ValueIdx Cert.KernelIdeal Cert.KernelIdeal.Gen Cert.Proof.Vectors
open Cert.Proof.Words (clipWord)

/-- The accumulator after a point: the block of values times its rows of the second weight, added. -/
def accum {F : FTy → Type} [FloatOps F] (Y : Vec F S768x4096 .f32) (v : Vec F S768x512 .bf16) (w : Vec F S512x4096 .i8) :
    FVec F S768x4096 .f32 := k0_pay1536 (k0_pay1535 Y v w)

/-! ## The blocks, element by element -/

section Blocks

variable (A : Vec Ideal S768x512 .f32) (xs : Vec Ideal S768x1 .f32) (ws b1 : Vec Ideal S1x512 .f32) (h : Elt Ideal .f32)

/-- Half the reciprocal of the hidden scale. -/
def hHalf : EReal := Scalars.wordF 0x3F000000#32 * Ideal.div (Scalars.wordF 0x3F800000#32) h

/-- An element of the hidden block before its clip. -/
def hWord (y : S768x512.Idx) : BitVec 32 :=
  Scalars.kHidden (A y) (xs (ix2 (y 0) 0) * ws (ix2 0 (y 1))) (b1 (ix2 0 (y 1))) (hHalf h)

/-- An element of the hidden block. -/
def hCode (y : S768x512.Idx) : BitVec 8 := (clipWord (hWord A xs ws b1 h y)).setWidth 8

/-- Its value. -/
def hVal (y : S768x512.Idx) : EReal := (((hCode A xs ws b1 h y).toInt : ℝ) : EReal)

end Blocks

section Out

variable (Y : Vec Ideal S768x4096 .f32) (b2 : Vec Ideal S1x4096 .i32) (h : Elt Ideal .f32) (ws2 : Vec Ideal S1x4096 .f32)
  (ysc : Elt Ideal .f32)

/-- The output's requantization of an accumulated element. -/
def yWord (a : EReal) (b : BitVec 32) (mult : EReal) : BitVec 32 :=
  Scalars.kReq (IntOp.shrsi .vector (IntOp.addi (IntOp.addi (Ideal.fptosi 32 a) b) 8#32) 4#32) (Scalars.kM mult)
    (Scalars.kK 136#32 mult)

/-- An element of the output block. -/
def yCode (y : S768x4096.Idx) : BitVec 8 :=
  (clipWord (yWord (Y y) (b2 (ix2 0 (y 1))) (Ideal.div (h * ws2 (ix2 0 (y 1))) ysc))).setWidth 8

end Out

/-! ## The tiles as vectors -/

/-- A tile of the hidden block, from what it loads. -/
def hTile (a : Vec Ideal S32x256 .f32) (xs : Vec Ideal S32x1 .f32) (ws b1 : Vec Ideal S1x256 .f32) (h : Elt Ideal .f32) :
    IVec S32x256 32 :=
  vHidden a
    (mulf (broadcastTo S32x256 xs broadcasts_S32x1_S32x256) (broadcastTo S32x256 ws broadcasts_S1x256_S32x256))
    (broadcastTo S32x256 b1 broadcasts_S1x256_S32x256) (broadcastTo S32x256 (k0_pay50 h) broadcasts_S1x1_S32x256)

/-- A tile of the output block, from what it loads. -/
def yTile (a : Vec Ideal S32x4096 .f32) (b2 : Vec Ideal S1x4096 .i32) (mult : FVec Ideal S1x4096 .f32) : IVec S32x4096 32 :=
  minsi (broadcast S32x4096 127#32) (maxsi (broadcast S32x4096 4294967169#32)
    (shrsi (addi (muli (shrsi (addi (addi (fptosi (F := Ideal) (φ := .f32) 32 a) (broadcastTo S32x4096 b2 broadcasts_S1x4096_S32x4096))
        (broadcast S32x4096 8#32)) (broadcast S32x4096 4#32))
      (broadcastTo S32x4096 (vM mult) broadcasts_S1x4096_S32x4096))
      (broadcastTo S32x4096 (shli (broadcast S1x4096 1#32) (subi (vK 136#32 mult) (broadcast S1x4096 1#32)))
        broadcasts_S1x4096_S32x4096))
      (broadcastTo S32x4096 (vK 136#32 mult) broadcasts_S1x4096_S32x4096)))

/-! ## Read at an index -/

theorem op_minsi {s : Shape} (a b : IVec s 32) (i : s.Idx) : minsi a b i = IntOp.minsi (a i) (b i) := rfl
theorem op_maxsi {s : Shape} (a b : IVec s 32) (i : s.Idx) : maxsi a b i = IntOp.maxsi (a i) (b i) := rfl
theorem op_trunci {s : Shape} (a : IVec s 32) (h) (i : s.Idx) : trunci 8 a h i = (a i).setWidth 8 := rfl
theorem op_truncf {s : Shape} (a : FVec Ideal s .f32) (h) (i : s.Idx) : truncf .bf16 a h i = a i := rfl

theorem col_apply {α : Type} {a b : ℕ} (x : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ x h j = x (ix2 (j 0) 0) := by
  refine broadcastTo_apply x h j _ fun ax => ?_
  match ax with
  | ⟨0, _⟩ =>
    show (j 0).val = if a = 1 then 0 else (j 0).val
    split
    · have := idx2_lt0 j; omega
    · rfl
  | ⟨1, _⟩ => rfl

theorem row_apply {α : Type} {a b : ℕ} (x : (⟨2, ![1, b]⟩ : Shape).Idx → α)
    (h : (⟨2, ![1, b]⟩ : Shape).Broadcasts ⟨2, ![a, b]⟩) (j : (⟨2, ![a, b]⟩ : Shape).Idx) :
    broadcastTo ⟨2, ![a, b]⟩ x h j = x (ix2 0 (j 1)) := by
  refine broadcastTo_apply x h j _ fun ax => ?_
  match ax with
  | ⟨0, _⟩ => rfl
  | ⟨1, _⟩ =>
    show (j 1).val = if b = 1 then 0 else (j 1).val
    split
    · have := idx2_lt1 j; omega
    · rfl

theorem half_apply (h : Elt Ideal .f32) (j : S1x1.Idx) : k0_pay50 h j = hHalf h := by
  unfold k0_pay50
  simp only [op_mulf]
  rfl

theorem hTile_apply (a : Vec Ideal S32x256 .f32) (xs : Vec Ideal S32x1 .f32) (ws b1 : Vec Ideal S1x256 .f32)
    (h : Elt Ideal .f32) (j : S32x256.Idx) :
    hTile a xs ws b1 h j
      = Scalars.kHidden (a j) (xs (ix2 (j 0) 0) * ws (ix2 0 (j 1))) (b1 (ix2 0 (j 1))) (hHalf h) := by
  unfold hTile
  rw [vHidden_apply, op_mulf]
  unfold S32x256 S32x1 S1x256 S1x1 at *
  rw [col_apply, row_apply, row_apply]
  congr 1

theorem yTile_apply (a : Vec Ideal S32x4096 .f32) (b2 : Vec Ideal S1x4096 .i32) (mult : FVec Ideal S1x4096 .f32)
    (j : S32x4096.Idx) :
    yTile a b2 mult j = clipWord (yWord (a j) (b2 (ix2 0 (j 1))) (mult (ix2 0 (j 1)))) := by
  unfold yTile yWord clipWord Scalars.kReq
  simp only [op_minsi, op_maxsi, op_splat, op_shrsi, op_addi, op_muli, op_fptosi]
  unfold S32x4096 S1x4096 at *
  rw [row_apply, row_apply, row_apply, row_apply]
  simp only [op_shli, op_subi, op_splat, vM_apply, vK_apply]

/-! ## A stored tile is a tile of the block -/

section Pieces

variable (A : Vec Ideal S768x512 .f32) (xs : Vec Ideal S768x1 .f32) (ws b1 : Vec Ideal S1x512 .f32) (h : Elt Ideal .f32)
  {o p : ℕ} (inb : ∀ a, (![o, p] : Fin 2 → ℕ) a + S32x256.size a ≤ S768x512.size a)

include inb in
theorem inb_rows : ∀ a, (![o, 0] : Fin 2 → ℕ) a + S32x1.size a ≤ S768x1.size a := by
  intro a
  have := inb 0
  match a with
  | ⟨0, _⟩ => exact this
  | ⟨1, _⟩ => exact le_refl 1

include inb in
theorem inb_cols : ∀ a, (![0, p] : Fin 2 → ℕ) a + S1x256.size a ≤ S1x512.size a := by
  intro a
  have := inb 1
  match a with
  | ⟨0, _⟩ => exact le_refl 1
  | ⟨1, _⟩ => exact this

/-- The tile of the hidden block at row `o` and column `p`. -/
def hTileAt : IVec S32x256 32 :=
  hTile (View.ld A (Rect.unit (s := S768x512) ![o, p] S32x256.size inb)) (View.ld xs (Rect.unit (s := S768x1) ![o, 0] S32x1.size (inb_rows inb)))
    (View.ld ws (Rect.unit (s := S1x512) ![0, p] S1x256.size (inb_cols inb))) (View.ld b1 (Rect.unit (s := S1x512) ![0, p] S1x256.size (inb_cols inb))) h

theorem hTileAt_apply (x : S32x256.Idx) :
    hTileAt A xs ws b1 h inb x = hWord A xs ws b1 h ((Rect.unit (s := S768x512) ![o, p] S32x256.size inb).emb x) := by
  unfold hTileAt hWord
  rw [hTile_apply]
  have e1 : View.ld xs (Rect.unit (s := S768x1) ![o, 0] S32x1.size (inb_rows inb)) (ix2 (x 0) 0)
      = xs (ix2 (((Rect.unit (s := S768x512) ![o, p] S32x256.size inb).emb x) 0) 0) := by
    refine View.ld_unit_apply_of xs _ _ _ _ _ fun a => ?_
    match a with
    | ⟨0, _⟩ => exact congrArg (o + ·) (Nat.one_mul _)
    | ⟨1, _⟩ => rfl
  have e2 : ∀ ws : Vec Ideal S1x512 .f32, View.ld ws (Rect.unit (s := S1x512) ![0, p] S1x256.size (inb_cols inb)) (ix2 0 (x 1))
      = ws (ix2 0 (((Rect.unit (s := S768x512) ![o, p] S32x256.size inb).emb x) 1)) := by
    intro ws
    refine View.ld_unit_apply_of ws _ _ _ _ _ fun a => ?_
    match a with
    | ⟨0, _⟩ => rfl
    | ⟨1, _⟩ => exact congrArg (p + ·) (Nat.one_mul _)
  rw [e1, e2, e2]
  rfl

/-- A stored tile of codes. -/
theorem code_piece (pay : IVec S32x256 8)
    (hp : pay = trunci 8 (fptosi 32 (vCode (F := Ideal) (hTileAt A xs ws b1 h inb))) natLt_8_32) (x : S32x256.Idx) :
    pay x = hCode A xs ws b1 h ((Rect.unit (s := S768x512) ![o, p] S32x256.size inb).emb x) := by
  rw [hp, op_trunci, op_fptosi, vCode_apply, Requant.kCode_bits, hTileAt_apply]
  rfl

/-- A stored tile of their values. -/
theorem val_piece (pay : FVec Ideal S32x256 .bf16)
    (hp : pay = truncf .bf16 (vCode (F := Ideal) (hTileAt A xs ws b1 h inb)) bitsLt_bf16_f32) (x : S32x256.Idx) :
    pay x = hVal A xs ws b1 h ((Rect.unit (s := S768x512) ![o, p] S32x256.size inb).emb x) := by
  rw [hp, op_truncf, vCode_apply, Requant.kCode_eq, hTileAt_apply]
  rfl

end Pieces

section OutPieces

variable (Y : Vec Ideal S768x4096 .f32) (b2 : Vec Ideal S1x4096 .i32) (h : Elt Ideal .f32) (ws2 : Vec Ideal S1x4096 .f32)
  (ysc : Elt Ideal .f32) {o : ℕ} (inb : ∀ a, (![o, 0] : Fin 2 → ℕ) a + S32x4096.size a ≤ S768x4096.size a)

/-- A stored tile of the output. -/
theorem out_piece (pay : IVec S32x4096 8)
    (hp : pay = trunci 8 (yTile (View.ld Y (Rect.unit (s := S768x4096) ![o, 0] S32x4096.size inb)) b2
      (divf (mulf (broadcast S1x4096 h) ws2) (broadcast S1x4096 ysc))) natLt_8_32) (x : S32x4096.Idx) :
    pay x = yCode Y b2 h ws2 ysc ((Rect.unit (s := S768x4096) ![o, 0] S32x4096.size inb).emb x) := by
  rw [hp, op_trunci, yTile_apply]
  unfold yCode
  have e : ((Rect.unit (s := S768x4096) ![o, 0] S32x4096.size inb).emb x) 1 = x 1 :=
    Fin.ext (by rw [Rect.emb_apply]; show 0 + 1 * (x 1).val = _; omega)
  rw [e]
  rfl

end OutPieces

end Cert.Proof.Tile
-- ==== Proof.BlockA.lean ====
/-
  What the kernel leaves at the first point of the grid: the hidden block it writes, tile by tile the block of `Tile.lean`; the same block's
  values, read back whole from scratch; and the accumulator they go into.
-/
module

public import proofs.«01_k».proof.Proof.Gen.KernelIdeal.Frame
public import proofs.«01_k».proof.Proof.Tile
public import Idealize.ShloMosaic.Lib.Pointwise.TacticCore
public import Idealize.ShloMosaic.Lib.Pipeline.ReadBack
public import Idealize.ShloMosaic.Lib.Pipeline.ValueKit.Basic

public section

set_option maxRecDepth 16384

namespace Cert.Proof.BlockA

open Cert.KernelIdeal Cert.KernelIdeal.Gen Idealize.ShloMosaic Idealize.ShloMosaic.TcCoe Idealize.SL.Sem
open Cert.Proof.Vectors Cert.Proof.Tile

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S768x4096 .i8) (harg3 : arg3.IsWhole) (arg4 : Memref sig .tc .vmem S768x1 .f32) (harg4 : arg4.IsWhole) (arg5 : Memref sig .tc .vmem S4096x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4096 .i8) (harg8 : arg8.IsWhole) (arg9 : Memref sig .tc .vmem S1x4096 .f32) (harg9 : arg9.IsWhole) (arg10 : Memref sig .tc .vmem S1x4096 .i32) (harg10 : arg10.IsWhole) (arg11 : Memref sig .tc .vmem S768x4096 .i8) (harg11 : arg11.IsWhole) (arg12 : Memref sig .tc .vmem S768x512 .i8) (harg12 : arg12.IsWhole) (arg13 : Memref sig .tc .vmem S768x4096 .bf16) (harg13 : arg13.IsWhole) (arg14 : Memref sig .tc .vmem S768x512 .f32) (harg14 : arg14.IsWhole) (arg15 : Memref sig .tc .vmem S768x512 .bf16) (harg15 : arg15.IsWhole) (arg16 : Memref sig .tc .vmem S768x4096 .f32) (harg16 : arg16.IsWhole) (hc0 : cond0_0 i) (hc1 : ¬cond0_1 i)
    (x0 : Vec Ideal S1x1 .f32) (x1 : Vec Ideal S1x1 .f32) (x2 : Vec Ideal S768x4096 .i8) (x3 : Vec Ideal S768x1 .f32) (x4 : Vec Ideal S4096x512 .i8) (x5 : Vec Ideal S1x512 .f32) (x6 : Vec Ideal S1x512 .f32) (x7 : Vec Ideal S512x4096 .i8) (x8 : Vec Ideal S1x4096 .f32) (x9 : Vec Ideal S1x4096 .i32)

theorem hz : ∀ a, (![0, 0] : Fin 2 → ℕ) a = 0 := by
  intro a
  fin_cases a <;> rfl

set_option maxHeartbeats 4000000 in
/-- The hidden block the point writes. -/
theorem codes : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = hCode (k0_pay51 (F := Ideal) (k0_pay48 (F := Ideal) x2) x4) x3 x5 x6 (x0 (Shape.Idx.first (by decide))) := by
  unfold out0_A_11
  rw [View.read_writes_eq_canon _ _ _ (cover0_A_11 _ _ _ _ _ _ _ _ _ _ _ _ _ _ _ _ _ _ _ _ _ _ _ _ _ _ _ _ _ _ _ _ _ _ _ _ _ _ _ _ _ _ _ _ _ _)]
  funext y
  refine View.canon_apply_of_pieces (hCode (k0_pay51 (F := Ideal) (k0_pay48 (F := Ideal) x2) x4) x3 x5 x6 (x0 (Shape.Idx.first (by decide)))) _ ?_ y (cover0_A_11 (F := Ideal) _ _ _ _ _ _ _ _ _ _ _ _ _ _ _ _ _ _ _ _ _ _ _ _ _ _ _ _ _ _ _ _ _ _ _ _ _ _ _ _ _ _ _ _ _ _ y)
  refine View.PiecesOf.mem ?_
  unfold kernelRun0_A
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine code_piece _ _ _ _ _ _ _ ?_
    iterate 3 sl_unfold_words
    unfold hTileAt
    simp (disch := exact hz) only [View.readAt_eq_ld, View.readCov_fill, View.ld_unit_lit, h0, harg1.read_unread, harg3.read_unread, harg4.read_unread, harg5.read_unread, harg6.read_unread, harg7.read_unread]
    generalize View.ld (S := S768x512) (Val := Elt Ideal) (e' := .f32) (k0_pay51 (F := Ideal) _ _) _ = ta
    generalize View.ld x3 _ = tx
    generalize View.ld x5 _ = tw
    generalize View.ld x6 _ = tb
    generalize x0 _ = th
    unfold hTile
    iterate 3 unfold_payloads
    simp only [shapeCast_self, vCode, vHidden, vReq, vV, vQ, vM, vKs, vMult, vE, vOne, vSp, vP, vD, vA, vErf, vErf0, vC, vB, vSe, vPow, vNorm, vSearch, vStep]

set_option maxHeartbeats 4000000 in
/-- The hidden block's values, as the point reads them back from scratch. -/
theorem values : kernelRun0_A.sl.v11058 c arg1 harg1 arg3 harg3 arg4 harg4 arg5 harg5 arg6 harg6 arg7 harg7 arg13 arg14 arg15 x0 x2 x3 x4 x5 x6 = hVal (k0_pay51 (F := Ideal) (k0_pay48 (F := Ideal) x2) x4) x3 x5 x6 (x0 (Shape.Idx.first (by decide))) := by
  unfold kernelRun0_A.sl.v11058
  rw [View.readCov_eq_canon']
  refine (View.ld_unit_lit _ _ hz).trans ?_
  funext y
  refine View.canon_apply_of_pieces (Val := Elt Ideal) (e := .bf16) (hVal (k0_pay51 (F := Ideal) (k0_pay48 (F := Ideal) x2) x4) x3 x5 x6 (x0 (Shape.Idx.first (by decide)))) _ ?_ y (View.cover_of_tiledL (s := S768x512) _ S32x256.size (by sl_kernel_rfl) y)
  refine View.PiecesOf.mem ?_
  unfold kernelRun0_A.sl.HS2_48
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine val_piece _ _ _ _ _ _ _ ?_
    iterate 3 sl_unfold_words
    unfold hTileAt
    simp (disch := exact hz) only [View.readAt_eq_ld, View.readCov_fill, View.ld_unit_lit, h0, harg1.read_unread, harg3.read_unread, harg4.read_unread, harg5.read_unread, harg6.read_unread, harg7.read_unread]
    generalize View.ld (S := S768x512) (Val := Elt Ideal) (e' := .f32) (k0_pay51 (F := Ideal) _ _) _ = ta
    generalize View.ld x3 _ = tx
    generalize View.ld x5 _ = tw
    generalize View.ld x6 _ = tb
    generalize x0 _ = th
    unfold hTile
    iterate 3 unfold_payloads
    simp only [shapeCast_self, vCode, vHidden, vReq, vV, vQ, vM, vKs, vMult, vE, vOne, vSp, vP, vD, vA, vErf, vErf0, vC, vB, vSe, vPow, vNorm, vSearch, vStep]

/-- The accumulator the point leaves. -/
theorem acc : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = accum (k0_pay49 (F := Ideal)) (hVal (k0_pay51 (F := Ideal) (k0_pay48 (F := Ideal) x2) x4) x3 x5 x6 (x0 (Shape.Idx.first (by decide)))) x7 := by
  unfold sout0_A_3
  rw [View.read_writes_eq_canon _ _ _ (scover0_A_3 _ _ _ _ _ _ _ _ _ _ _ _ _ _ _ _ _ _ _ _ _ _ _ _ _ _ _ _ _ _ _ _ _ _ _ _ _ _ _ _ _ _ _ _ _ _)]
  unfold kernelRun0_A
  dsimp only
  rw [View.canon_cons_unit_lit _ _ _ hz]
  unfold kernelRun0_A.sl.r_1034 accum
  rw [values]
  unfold kernelRun0_A.sl.v11057
  unfold kernelRun0_A.sl.HS3_1
  simp (disch := exact hz) only [View.readAt_eq_ld, View.readCov_fill, View.readCov_unit_lit, View.ld_unit_lit, harg16.read_unread, harg8.read_unread]

/-- The activations the first point keeps. -/
theorem kept : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay48 (F := Ideal) x2 := by
  unfold sout0_A_0
  rw [View.read_writes_eq_canon _ _ _ (scover0_A_0 _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.HS0_1
  rw [View.canon_cons_unit_lit _ _ _ hz]
  simp (disch := exact hz) only [View.readAt_eq_ld, View.ld_unit_lit, harg3.read_unread]

end Cert.Proof.BlockA
-- ==== Proof.BlockB.lean ====
/-
  What the kernel leaves at the points between the first and the last: the hidden block it writes, tile by tile the block of `Tile.lean`; the same block's
  values, read back whole from scratch; and the accumulator they go into.
-/
module

public import proofs.«01_k».proof.Proof.Gen.KernelIdeal.Frame
public import proofs.«01_k».proof.Proof.Tile
public import Idealize.ShloMosaic.Lib.Pointwise.TacticCore
public import Idealize.ShloMosaic.Lib.Pipeline.ReadBack
public import Idealize.ShloMosaic.Lib.Pipeline.ValueKit.Basic

public section

set_option maxRecDepth 16384

namespace Cert.Proof.BlockB

open Cert.KernelIdeal Cert.KernelIdeal.Gen Idealize.ShloMosaic Idealize.ShloMosaic.TcCoe Idealize.SL.Sem
open Cert.Proof.Vectors Cert.Proof.Tile

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S768x4096 .i8) (harg3 : arg3.IsWhole) (arg4 : Memref sig .tc .vmem S768x1 .f32) (harg4 : arg4.IsWhole) (arg5 : Memref sig .tc .vmem S4096x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4096 .i8) (harg8 : arg8.IsWhole) (arg9 : Memref sig .tc .vmem S1x4096 .f32) (harg9 : arg9.IsWhole) (arg10 : Memref sig .tc .vmem S1x4096 .i32) (harg10 : arg10.IsWhole) (arg11 : Memref sig .tc .vmem S768x4096 .i8) (harg11 : arg11.IsWhole) (arg12 : Memref sig .tc .vmem S768x512 .i8) (harg12 : arg12.IsWhole) (arg13 : Memref sig .tc .vmem S768x4096 .bf16) (harg13 : arg13.IsWhole) (arg14 : Memref sig .tc .vmem S768x512 .f32) (harg14 : arg14.IsWhole) (arg15 : Memref sig .tc .vmem S768x512 .bf16) (harg15 : arg15.IsWhole) (arg16 : Memref sig .tc .vmem S768x4096 .f32) (harg16 : arg16.IsWhole) (hc0 : ¬cond0_0 i) (hc1 : ¬cond0_1 i)
    (x0 : Vec Ideal S1x1 .f32) (x1 : Vec Ideal S1x1 .f32) (x2 : Vec Ideal S768x4096 .i8) (x3 : Vec Ideal S768x1 .f32) (x4 : Vec Ideal S4096x512 .i8) (x5 : Vec Ideal S1x512 .f32) (x6 : Vec Ideal S1x512 .f32) (x7 : Vec Ideal S512x4096 .i8) (x8 : Vec Ideal S1x4096 .f32) (x9 : Vec Ideal S1x4096 .i32) (xs0 : Vec Ideal S768x4096 .bf16) (xs3 : Vec Ideal S768x4096 .f32)

theorem hz : ∀ a, (![0, 0] : Fin 2 → ℕ) a = 0 := by
  intro a
  fin_cases a <;> rfl

set_option maxHeartbeats 4000000 in
/-- The hidden block the point writes. -/
theorem codes : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs3 = hCode (k0_pay51 (F := Ideal) xs0 x4) x3 x5 x6 (x0 (Shape.Idx.first (by decide))) := by
  unfold out0_B_11
  rw [View.read_writes_eq_canon _ _ _ (cover0_B_11 _ _ _ _ _ _ _ _ _ _ _ _ _ _ _ _ _ _ _ _ _ _ _ _ _ _ _ _ _ _ _ _ _ _ _ _ _ _ _ _ _ _ _ _ _ _ _ _)]
  funext y
  refine View.canon_apply_of_pieces (hCode (k0_pay51 (F := Ideal) xs0 x4) x3 x5 x6 (x0 (Shape.Idx.first (by decide)))) _ ?_ y (cover0_B_11 (F := Ideal) _ _ _ _ _ _ _ _ _ _ _ _ _ _ _ _ _ _ _ _ _ _ _ _ _ _ _ _ _ _ _ _ _ _ _ _ _ _ _ _ _ _ _ _ _ _ _ _ y)
  refine View.PiecesOf.mem ?_
  unfold kernelRun0_B
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine code_piece _ _ _ _ _ _ _ ?_
    iterate 3 sl_unfold_words
    unfold hTileAt
    simp (disch := exact hz) only [View.readAt_eq_ld, View.readCov_fill, View.ld_unit_lit, h0, harg1.read_unread, harg4.read_unread, harg5.read_unread, harg6.read_unread, harg7.read_unread, harg13.read_unread]
    generalize View.ld (S := S768x512) (Val := Elt Ideal) (e' := .f32) (k0_pay51 (F := Ideal) _ _) _ = ta
    generalize View.ld x3 _ = tx
    generalize View.ld x5 _ = tw
    generalize View.ld x6 _ = tb
    generalize x0 _ = th
    unfold hTile
    iterate 3 unfold_payloads
    simp only [shapeCast_self, vCode, vHidden, vReq, vV, vQ, vM, vKs, vMult, vE, vOne, vSp, vP, vD, vA, vErf, vErf0, vC, vB, vSe, vPow, vNorm, vSearch, vStep]

set_option maxHeartbeats 4000000 in
/-- The hidden block's values, as the point reads them back from scratch. -/
theorem values : kernelRun0_B.sl.v11058 c arg1 harg1 arg4 harg4 arg5 harg5 arg6 harg6 arg7 harg7 arg13 harg13 arg14 arg15 x0 x3 x4 x5 x6 xs0 = hVal (k0_pay51 (F := Ideal) xs0 x4) x3 x5 x6 (x0 (Shape.Idx.first (by decide))) := by
  unfold kernelRun0_B.sl.v11058
  rw [View.readCov_eq_canon']
  refine (View.ld_unit_lit _ _ hz).trans ?_
  funext y
  refine View.canon_apply_of_pieces (Val := Elt Ideal) (e := .bf16) (hVal (k0_pay51 (F := Ideal) xs0 x4) x3 x5 x6 (x0 (Shape.Idx.first (by decide)))) _ ?_ y (View.cover_of_tiledL (s := S768x512) _ S32x256.size (by sl_kernel_rfl) y)
  refine View.PiecesOf.mem ?_
  unfold kernelRun0_B.sl.HS2_48
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine val_piece _ _ _ _ _ _ _ ?_
    iterate 3 sl_unfold_words
    unfold hTileAt
    simp (disch := exact hz) only [View.readAt_eq_ld, View.readCov_fill, View.ld_unit_lit, h0, harg1.read_unread, harg4.read_unread, harg5.read_unread, harg6.read_unread, harg7.read_unread, harg13.read_unread]
    generalize View.ld (S := S768x512) (Val := Elt Ideal) (e' := .f32) (k0_pay51 (F := Ideal) _ _) _ = ta
    generalize View.ld x3 _ = tx
    generalize View.ld x5 _ = tw
    generalize View.ld x6 _ = tb
    generalize x0 _ = th
    unfold hTile
    iterate 3 unfold_payloads
    simp only [shapeCast_self, vCode, vHidden, vReq, vV, vQ, vM, vKs, vMult, vE, vOne, vSp, vP, vD, vA, vErf, vErf0, vC, vB, vSe, vPow, vNorm, vSearch, vStep]

/-- The accumulator the point leaves. -/
theorem acc : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs3 = accum xs3 (hVal (k0_pay51 (F := Ideal) xs0 x4) x3 x5 x6 (x0 (Shape.Idx.first (by decide)))) x7 := by
  unfold sout0_B_3
  rw [View.read_writes_eq_canon _ _ _ (scover0_B_3 _ _ _ _ _ _ _ _ _ _ _ _ _ _ _ _ _ _ _ _ _ _ _ _ _ _ _ _ _ _ _ _ _ _ _ _ _ _ _ _ _ _ _ _ _ _ _ _)]
  unfold kernelRun0_B
  dsimp only
  rw [View.canon_cons_unit_lit _ _ _ hz]
  unfold kernelRun0_B.sl.r_1034 accum
  rw [values]
  simp (disch := exact hz) only [View.readAt_eq_ld, View.readCov_fill, View.ld_unit_lit, harg16.read_unread, harg8.read_unread]

end Cert.Proof.BlockB
-- ==== Proof.BlockC.lean ====
/-
  What the kernel leaves at the last point of the grid: the hidden block it writes, tile by tile the block of `Tile.lean`; the same block's
  values, read back whole from scratch; and the accumulator they go into.
-/
module

public import proofs.«01_k».proof.Proof.Gen.KernelIdeal.Frame
public import proofs.«01_k».proof.Proof.Tile
public import Idealize.ShloMosaic.Lib.Pointwise.TacticCore
public import Idealize.ShloMosaic.Lib.Pipeline.ReadBack
public import Idealize.ShloMosaic.Lib.Pipeline.ValueKit.Basic

public section

set_option maxRecDepth 16384

namespace Cert.Proof.BlockC

open Cert.KernelIdeal Cert.KernelIdeal.Gen Idealize.ShloMosaic Idealize.ShloMosaic.TcCoe Idealize.SL.Sem
open Cert.Proof.Vectors Cert.Proof.Tile

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S768x4096 .i8) (harg3 : arg3.IsWhole) (arg4 : Memref sig .tc .vmem S768x1 .f32) (harg4 : arg4.IsWhole) (arg5 : Memref sig .tc .vmem S4096x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4096 .i8) (harg8 : arg8.IsWhole) (arg9 : Memref sig .tc .vmem S1x4096 .f32) (harg9 : arg9.IsWhole) (arg10 : Memref sig .tc .vmem S1x4096 .i32) (harg10 : arg10.IsWhole) (arg11 : Memref sig .tc .vmem S768x4096 .i8) (harg11 : arg11.IsWhole) (arg12 : Memref sig .tc .vmem S768x512 .i8) (harg12 : arg12.IsWhole) (arg13 : Memref sig .tc .vmem S768x4096 .bf16) (harg13 : arg13.IsWhole) (arg14 : Memref sig .tc .vmem S768x512 .f32) (harg14 : arg14.IsWhole) (arg15 : Memref sig .tc .vmem S768x512 .bf16) (harg15 : arg15.IsWhole) (arg16 : Memref sig .tc .vmem S768x4096 .f32) (harg16 : arg16.IsWhole) (hc0 : ¬cond0_0 i) (hc1 : cond0_1 i)
    (x0 : Vec Ideal S1x1 .f32) (x1 : Vec Ideal S1x1 .f32) (x2 : Vec Ideal S768x4096 .i8) (x3 : Vec Ideal S768x1 .f32) (x4 : Vec Ideal S4096x512 .i8) (x5 : Vec Ideal S1x512 .f32) (x6 : Vec Ideal S1x512 .f32) (x7 : Vec Ideal S512x4096 .i8) (x8 : Vec Ideal S1x4096 .f32) (x9 : Vec Ideal S1x4096 .i32) (xs0 : Vec Ideal S768x4096 .bf16) (xs3 : Vec Ideal S768x4096 .f32)

theorem hz : ∀ a, (![0, 0] : Fin 2 → ℕ) a = 0 := by
  intro a
  fin_cases a <;> rfl

set_option maxHeartbeats 4000000 in
/-- The hidden block the point writes. -/
theorem codes : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs3 = hCode (k0_pay51 (F := Ideal) xs0 x4) x3 x5 x6 (x0 (Shape.Idx.first (by decide))) := by
  unfold out0_C_11
  rw [View.read_writes_eq_canon _ _ _ (cover0_C_11 _ _ _ _ _ _ _ _ _ _ _ _ _ _ _ _ _ _ _ _ _ _ _ _ _ _ _ _ _ _ _ _ _ _ _ _ _ _ _ _ _ _ _ _ _ _ _ _)]
  funext y
  refine View.canon_apply_of_pieces (hCode (k0_pay51 (F := Ideal) xs0 x4) x3 x5 x6 (x0 (Shape.Idx.first (by decide)))) _ ?_ y (cover0_C_11 (F := Ideal) _ _ _ _ _ _ _ _ _ _ _ _ _ _ _ _ _ _ _ _ _ _ _ _ _ _ _ _ _ _ _ _ _ _ _ _ _ _ _ _ _ _ _ _ _ _ _ _ y)
  refine View.PiecesOf.mem ?_
  unfold kernelRun0_C
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine code_piece _ _ _ _ _ _ _ ?_
    iterate 3 sl_unfold_words
    unfold hTileAt
    simp (disch := exact hz) only [View.readAt_eq_ld, View.readCov_fill, View.ld_unit_lit, h0, harg1.read_unread, harg4.read_unread, harg5.read_unread, harg6.read_unread, harg7.read_unread, harg13.read_unread]
    generalize View.ld (S := S768x512) (Val := Elt Ideal) (e' := .f32) (k0_pay51 (F := Ideal) _ _) _ = ta
    generalize View.ld x3 _ = tx
    generalize View.ld x5 _ = tw
    generalize View.ld x6 _ = tb
    generalize x0 _ = th
    unfold hTile
    iterate 3 unfold_payloads
    simp only [shapeCast_self, vCode, vHidden, vReq, vV, vQ, vM, vKs, vMult, vE, vOne, vSp, vP, vD, vA, vErf, vErf0, vC, vB, vSe, vPow, vNorm, vSearch, vStep]

set_option maxHeartbeats 4000000 in
/-- The hidden block's values, as the point reads them back from scratch. -/
theorem values : kernelRun0_C.sl.v11058 c arg1 harg1 arg4 harg4 arg5 harg5 arg6 harg6 arg7 harg7 arg13 harg13 arg14 arg15 x0 x3 x4 x5 x6 xs0 = hVal (k0_pay51 (F := Ideal) xs0 x4) x3 x5 x6 (x0 (Shape.Idx.first (by decide))) := by
  unfold kernelRun0_C.sl.v11058
  rw [View.readCov_eq_canon']
  refine (View.ld_unit_lit _ _ hz).trans ?_
  funext y
  refine View.canon_apply_of_pieces (Val := Elt Ideal) (e := .bf16) (hVal (k0_pay51 (F := Ideal) xs0 x4) x3 x5 x6 (x0 (Shape.Idx.first (by decide)))) _ ?_ y (View.cover_of_tiledL (s := S768x512) _ S32x256.size (by sl_kernel_rfl) y)
  refine View.PiecesOf.mem ?_
  unfold kernelRun0_C.sl.HS2_48
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine val_piece _ _ _ _ _ _ _ ?_
    iterate 3 sl_unfold_words
    unfold hTileAt
    simp (disch := exact hz) only [View.readAt_eq_ld, View.readCov_fill, View.ld_unit_lit, h0, harg1.read_unread, harg4.read_unread, harg5.read_unread, harg6.read_unread, harg7.read_unread, harg13.read_unread]
    generalize View.ld (S := S768x512) (Val := Elt Ideal) (e' := .f32) (k0_pay51 (F := Ideal) _ _) _ = ta
    generalize View.ld x3 _ = tx
    generalize View.ld x5 _ = tw
    generalize View.ld x6 _ = tb
    generalize x0 _ = th
    unfold hTile
    iterate 3 unfold_payloads
    simp only [shapeCast_self, vCode, vHidden, vReq, vV, vQ, vM, vKs, vMult, vE, vOne, vSp, vP, vD, vA, vErf, vErf0, vC, vB, vSe, vPow, vNorm, vSearch, vStep]

/-- The accumulator the point leaves. -/
theorem acc : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs3 = accum xs3 (hVal (k0_pay51 (F := Ideal) xs0 x4) x3 x5 x6 (x0 (Shape.Idx.first (by decide)))) x7 := by
  unfold sout0_C_3
  rw [View.read_writes_eq_canon _ _ _ (scover0_C_3 _ _ _ _ _ _ _ _ _ _ _ _ _ _ _ _ _ _ _ _ _ _ _ _ _ _ _ _ _ _ _ _ _ _ _ _ _ _ _ _ _ _ _ _ _ _ _ _)]
  unfold kernelRun0_C
  dsimp only
  unfold kernelRun0_C.sl.HS3_1
  rw [View.canon_cons_unit_lit _ _ _ hz]
  unfold kernelRun0_C.sl.r_1034 accum
  rw [values]
  simp (disch := exact hz) only [View.readAt_eq_ld, View.readCov_fill, View.ld_unit_lit, harg16.read_unread, harg8.read_unread]

section Scale

variable (h y : Elt Ideal .f32) (w : Vec Ideal S1x4096 .f32)

/-- The output's multipliers, one per column. -/
noncomputable abbrev mults : FVec Ideal S1x4096 .f32 := divf (mulf (broadcast S1x4096 h) w) (broadcast S1x4096 y)

theorem pay6 : k0_pay2 (F := Ideal) h w y = mults h y w := by
  unfold k0_pay2
  simp only [shapeCast_self]

theorem pay12 : k0_pay8 (F := Ideal) (k0_pay2 h w y) (k0_pay3 h w y) (k0_pay4 h w y) (k0_pay5 h w y) (k0_pay6 h w y) = vM (mults h y w) := by
  iterate 3 unfold_payloads
  simp only [shapeCast_self, mults, vM, vSearch, vStep]

theorem pay13 : k0_pay9 (F := Ideal) (k0_pay3 h w y) (k0_pay4 h w y) (k0_pay5 h w y) (k0_pay6 h w y) = vK 136#32 (mults h y w) := by
  iterate 3 unfold_payloads
  simp only [shapeCast_self, mults, vK, vSearch, vStep]

theorem pay14 : k0_pay10 (F := Ideal) (k0_pay3 h w y) (k0_pay4 h w y) (k0_pay5 h w y) (k0_pay6 h w y) = shli (broadcast S1x4096 1#32) (subi (vK 136#32 (mults h y w)) (broadcast S1x4096 1#32)) := by
  unfold k0_pay10
  rw [pay13]

end Scale

set_option maxHeartbeats 4000000 in
/-- The output the last point writes. -/
theorem outs : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs3 = yCode (accum (F := Ideal) xs3 (hVal (k0_pay51 (F := Ideal) xs0 x4) x3 x5 x6 (x0 (Shape.Idx.first (by decide)))) x7) x9 (x0 (Shape.Idx.first (by decide))) x8 (x1 (Shape.Idx.first (by decide))) := by
  unfold out0_C_10
  rw [View.read_writes_eq_canon _ _ _ (cover0_C_10 _ _ _ _ _ _ _ _ _ _ _ _ _ _ _ _ _ _ _ _ _ _ _ _ _ _ _ _ _ _ _ _ _ _ _ _ _ _ _ _ _ _ _ _ _ _ _ _)]
  funext y
  refine View.canon_apply_of_pieces (yCode (accum (F := Ideal) xs3 (hVal (k0_pay51 (F := Ideal) xs0 x4) x3 x5 x6 (x0 (Shape.Idx.first (by decide)))) x7) x9 (x0 (Shape.Idx.first (by decide))) x8 (x1 (Shape.Idx.first (by decide)))) _ ?_ y (cover0_C_10 (F := Ideal) _ _ _ _ _ _ _ _ _ _ _ _ _ _ _ _ _ _ _ _ _ _ _ _ _ _ _ _ _ _ _ _ _ _ _ _ _ _ _ _ _ _ _ _ _ _ _ _ y)
  refine View.PiecesOf.mem ?_
  unfold kernelRun0_C
  dsimp only [View.PiecesOf]
  have h0 : ∀ inb p, View.ld x0 (Rect.unit (s := S1x1) ![0, 0] ![1, 1] inb) (Shape.Idx.first p)
      = x0 (Shape.Idx.first (by decide)) := fun inb p => congrFun (View.ld_unit_lit (S := S1x1) inb x0 hz) _
  have h1 : ∀ inb p, View.ld x1 (Rect.unit (s := S1x1) ![0, 0] ![1, 1] inb) (Shape.Idx.first p)
      = x1 (Shape.Idx.first (by decide)) := fun inb p => congrFun (View.ld_unit_lit (S := S1x1) inb x1 hz) _
  refine ⟨?_, ?_, ?_, ?_, ?_, ?_, ?_, ?_, ?_, ?_, ?_, ?_, ?_, ?_, ?_, ?_, ?_, ?_, ?_, ?_, ?_, ?_, ?_, ?_, trivial⟩
  all_goals
    refine out_piece _ _ _ _ _ _ _ ?_
    simp (disch := exact hz) only [kernelRun0_C.sl.r, kernelRun0_C.sl.r_1034, kernelRun0_C.sl.r_1035, kernelRun0_C.sl.r_1036, kernelRun0_C.sl.r_1037, kernelRun0_C.sl.r_1038, kernelRun0_C.sl.r_1039, kernelRun0_C.sl.r_1040, kernelRun0_C.sl.r_1041, kernelRun0_C.sl.r_1042, kernelRun0_C.sl.r_1043, kernelRun0_C.sl.r_1044, kernelRun0_C.sl.r_1045, kernelRun0_C.sl.r_1046, kernelRun0_C.sl.r_1047, kernelRun0_C.sl.r_1048, kernelRun0_C.sl.r_1049, kernelRun0_C.sl.r_1050, kernelRun0_C.sl.r_1051, kernelRun0_C.sl.r_1052, kernelRun0_C.sl.r_1053, kernelRun0_C.sl.r_1054, kernelRun0_C.sl.r_1055, kernelRun0_C.sl.v11132, kernelRun0_C.sl.v11154, kernelRun0_C.sl.v11176, kernelRun0_C.sl.v11198, kernelRun0_C.sl.v11220, kernelRun0_C.sl.v11242, kernelRun0_C.sl.v11264, kernelRun0_C.sl.v11286, kernelRun0_C.sl.v11308, kernelRun0_C.sl.v11330, kernelRun0_C.sl.v11352, kernelRun0_C.sl.v11374, kernelRun0_C.sl.v11418, kernelRun0_C.sl.v11440, kernelRun0_C.sl.v11462, kernelRun0_C.sl.v11484, kernelRun0_C.sl.v11506, kernelRun0_C.sl.v11528, kernelRun0_C.sl.v11550, kernelRun0_C.sl.v11572, kernelRun0_C.sl.v11594, kernelRun0_C.sl.v11616, kernelRun0_C.sl.v11638, kernelRun0_C.sl.v, kernelRun0_C.sl.HS3_1, values, accum, View.readAt_eq_ld, View.readCov_fill, View.ld_unit_lit, h0, h1, harg1.read_unread, harg2.read_unread, harg9.read_unread, harg10.read_unread, harg8.read_unread, harg16.read_unread]
    generalize View.ld (S := S768x4096) (Val := Elt Ideal) (e' := .f32) (k0_pay1536 (F := Ideal) _) _ = ta
    generalize x0 _ = th
    generalize x1 _ = ty
    unfold yTile
    try unfold k0_pay11
    simp only [pay12, pay13, pay14]
    generalize vM (mults _ _ _) = tm
    generalize vK _ (mults _ _ _) = tk
    iterate 3 unfold_payloads
    simp only [shapeCast_self]

end Cert.Proof.BlockC
-- ==== Proof.Reads.lean ====
/-
  The kernel's input blocks, read at an index: each is a part of an argument, at the block's place in it.
-/
module

public import proofs.«01_k».proof.Proof.Gen.KernelIdeal.Value
public import Idealize.ShloMosaic.Lib.ValueIdx
public import Idealize.ShloMosaic.Lib.Pipeline.ValueKit
public import Idealize.ShloMosaic.Lib.Tactic

@[expose] public section

noncomputable section

namespace Cert.Proof.Reads

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Where each input's block is at each point. -/
theorem idx : ∀ t : Fin cfg0.N, win0_0.index t = ![0, 0] ∧ win0_1.index t = ![0, 0] ∧ win0_2.index t = ![0, 0]
    ∧ win0_3.index t = ![0, 0] ∧ win0_4.index t = ![0, t.val] ∧ win0_5.index t = ![0, t.val]
    ∧ win0_6.index t = ![0, t.val] ∧ win0_7.index t = ![t.val, 0] ∧ win0_8.index t = ![0, 0] ∧ win0_9.index t = ![0, 0] :=
  (by decide +kernel : ∀ t : Fin grid0.N, _)

theorem lt32 : t.val < 32 := lt_of_lt_of_eq t.isLt (show cfg0.N = 32 from N_0)

/-- Column `j` of the hidden block at a point, in the whole hidden array. -/
def col (j : Fin 512) : Fin 16384 := ⟨512 * t.val + j.val, by have := lt32 t; omega⟩

theorem read0 (p) : (iblk m c 0 t : Vec Ideal S1x1 .f32) (Shape.Idx.first p) = m ((c.tc : Thread nD τ).loc main_arg5) ix0 := by
  blk_ext! [iblk, V, idx t]

theorem read1 (p) : (iblk m c 1 t : Vec Ideal S1x1 .f32) (Shape.Idx.first p) = m ((c.tc : Thread nD τ).loc main_arg9) ix0 := by
  blk_ext! [iblk, V, idx t]

theorem read2 (r : Fin 768) (k : Fin 4096) : (iblk m c 2 t : Vec Ideal S768x4096 .i8) (ix2 r k)
    = m ((c.tc : Thread nD τ).loc main_arg0) (ix3 (⟨r.val / 384, by omega⟩ : Fin 2) (⟨r.val % 384, by omega⟩ : Fin 384) k) := by
  blk_ext! [iblk, V, idx t]

theorem read3 (r : Fin 768) : (iblk m c 3 t : Vec Ideal S768x1 .f32) (ix2 r (0 : Fin 1))
    = m ((c.tc : Thread nD τ).loc main_arg1) (ix2 (⟨r.val / 384, by omega⟩ : Fin 2) (⟨r.val % 384, by omega⟩ : Fin 384)) := by
  blk_ext! [iblk, V, idx t]

theorem read4 (k : Fin 4096) (j : Fin 512) : (iblk m c 4 t : Vec Ideal S4096x512 .i8) (ix2 k j)
    = m ((c.tc : Thread nD τ).loc main_arg2) (ix2 k (col t j)) := by
  blk_ext! [iblk, V, idx t, col]

theorem read5 (j : Fin 512) : (iblk m c 5 t : Vec Ideal S1x512 .f32) (ix2 (0 : Fin 1) j)
    = m ((c.tc : Thread nD τ).loc main_arg3) (ix1 (col t j)) := by
  blk_ext! [iblk, V, idx t, col]

theorem read6 (j : Fin 512) : (iblk m c 6 t : Vec Ideal S1x512 .f32) (ix2 (0 : Fin 1) j)
    = m ((c.tc : Thread nD τ).loc main_arg4) (ix1 (col t j)) := by
  blk_ext! [iblk, V, idx t, col]

theorem read7 (j : Fin 512) (o : Fin 4096) : (iblk m c 7 t : Vec Ideal S512x4096 .i8) (ix2 j o)
    = m ((c.tc : Thread nD τ).loc main_arg6) (ix2 (col t j) o) := by
  blk_ext! [iblk, V, idx t, col]

theorem read8 (o : Fin 4096) : (iblk m c 8 t : Vec Ideal S1x4096 .f32) (ix2 (0 : Fin 1) o)
    = m ((c.tc : Thread nD τ).loc main_arg7) (ix1 o) := by
  blk_ext! [iblk, V, idx t]

theorem read9 (o : Fin 4096) : (iblk m c 9 t : Vec Ideal S1x4096 .i32) (ix2 (0 : Fin 1) o)
    = m ((c.tc : Thread nD τ).loc main_arg8) (ix1 o) := by
  blk_ext! [iblk, V, idx t]

end Cert.Proof.Reads
-- ==== Proof.Sums.lean ====
/-
  Sums of products of integers, in the extended reals.
-/
module

public import Idealize.ShloMosaic.PureOps.Ideal

@[expose] public section

namespace Cert.Proof.Sums

open scoped BigOperators

theorem coe_finset_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The sum of the products' values is their sum's value. -/
theorem coe_sum {n : ℕ} (f g : Fin n → ℤ) :
    ∑ k : Fin n, (((f k : ℝ) : EReal) * ((g k : ℝ) : EReal)) = (((∑ k : Fin n, f k * g k : ℤ) : ℝ) : EReal) := by
  rw [Int.cast_sum, coe_finset_sum]
  refine Finset.sum_congr rfl fun k _ => ?_
  rw [Int.cast_mul, EReal.coe_mul]

/-- A byte's absolute value. -/
theorem abs_byte (a : BitVec 8) : |a.toInt| ≤ 128 := by
  have h1 := BitVec.toInt_lt (x := a)
  have h2 := BitVec.le_toInt a
  norm_num at h1 h2
  rw [abs_le]
  omega

/-- A sum of `n` products of bytes. -/
theorem abs_dot {n : ℕ} (f g : Fin n → BitVec 8) : |∑ k : Fin n, (f k).toInt * (g k).toInt| ≤ n * 16384 := by
  refine (Finset.abs_sum_le_sum_abs _ _).trans ?_
  refine (Finset.sum_le_sum fun k _ => ?_).trans (le_of_eq (by rw [Finset.sum_const, Finset.card_univ, Fintype.card_fin, nsmul_eq_mul]))
  rw [abs_mul]
  exact mul_le_mul (abs_byte _) (abs_byte _) (abs_nonneg _) (by norm_num)

end Cert.Proof.Sums
-- ==== Proof.Fold.lean ====
/-
  The kernel's two results, element by element. The grid's points walk the hidden columns in blocks of 512: each writes its
  block of the hidden array and adds that block's product with its rows of the second weight to the accumulator, which the
  last point requantizes. So the hidden array is `hidden` at every index, and the output is `out`, over the whole sum.
-/
module

public import proofs.«01_k».proof.Proof.BlockA
public import proofs.«01_k».proof.Proof.BlockB
public import proofs.«01_k».proof.Proof.BlockC
public import proofs.«01_k».proof.Proof.Reads
public import proofs.«01_k».proof.Proof.Sums
public import Idealize.ShloMosaic.Lib.MatmulPlain

@[expose] public section

noncomputable section

namespace Cert.Proof.Fold

open Idealize.ShloMosaic Idealize.ShloMosaic.TcCoe Idealize.SL.Sem
open Cert.KernelIdeal Cert.KernelIdeal.Gen Cert.KernelIdeal.Value Cert.Proof.Tile Cert.Proof.Reads
open Cert.Proof.Words (clipWord)
open Cert.Proof.Sums
open scoped BigOperators

variable (m : (ℓ : Loc nD τ sig) → Buf (Elt Ideal) ℓ) (c : Dev nD)

/-! ## The arguments, by row and column -/

def actX (r : Fin 768) (k : Fin 4096) : BitVec 8 :=
  m ((c.tc : Thread nD τ).loc main_arg0) (ix3 (⟨r.val / 384, by omega⟩ : Fin 2) (⟨r.val % 384, by omega⟩ : Fin 384) k)
def actS (r : Fin 768) : EReal :=
  m ((c.tc : Thread nD τ).loc main_arg1) (ix2 (⟨r.val / 384, by omega⟩ : Fin 2) (⟨r.val % 384, by omega⟩ : Fin 384))
def wOne (k : Fin 4096) (f : Fin 16384) : BitVec 8 := m ((c.tc : Thread nD τ).loc main_arg2) (ix2 k f)
def sOne (f : Fin 16384) : EReal := m ((c.tc : Thread nD τ).loc main_arg3) (ix1 f)
def bOne (f : Fin 16384) : EReal := m ((c.tc : Thread nD τ).loc main_arg4) (ix1 f)
def hScale : EReal := m ((c.tc : Thread nD τ).loc main_arg5) ix0
def wTwo (f : Fin 16384) (o : Fin 4096) : BitVec 8 := m ((c.tc : Thread nD τ).loc main_arg6) (ix2 f o)
def sTwo (o : Fin 4096) : EReal := m ((c.tc : Thread nD τ).loc main_arg7) (ix1 o)
def bTwo (o : Fin 4096) : BitVec 32 := m ((c.tc : Thread nD τ).loc main_arg8) (ix1 o)
def yScale : EReal := m ((c.tc : Thread nD τ).loc main_arg9) ix0

/-! ## The results, by row and column -/

/-- The first product. -/
def dotOne (r : Fin 768) (f : Fin 16384) : ℤ := ∑ k : Fin 4096, (actX m c r k).toInt * (wOne m c k f).toInt

/-- The hidden array. -/
def hidden (r : Fin 768) (f : Fin 16384) : BitVec 8 :=
  (clipWord (Scalars.kHidden ((dotOne m c r f : ℝ) : EReal) (actS m c r * sOne m c f) (bOne m c f) (hHalf (hScale m c)))).setWidth 8

/-- A term of the second product, zero past the hidden columns. -/
def term (r : Fin 768) (o : Fin 4096) (f : ℕ) : ℤ :=
  if h : f < 16384 then (hidden m c r ⟨f, h⟩).toInt * (wTwo m c ⟨f, h⟩ o).toInt else 0

/-- The second product. -/
def dotTwo (r : Fin 768) (o : Fin 4096) : ℤ := ∑ f : Fin 16384, (hidden m c r f).toInt * (wTwo m c f o).toInt

/-- The output array. -/
def out (r : Fin 768) (o : Fin 4096) : BitVec 8 :=
  (clipWord (yWord ((dotTwo m c r o : ℝ) : EReal) (bTwo m c o)
    (Ideal.div (hScale m c * sTwo m c o) (yScale m c)))).setWidth 8

/-! ## A point's block -/

theorem one : 0 < S1x1.numel := by decide

variable (t : Fin cfg0.N)

/-- The activations, as the first point keeps them. -/
abbrev kept : Vec Ideal S768x4096 .bf16 := k0_pay48 (F := Ideal) (iblk m c 2 ⟨0, lt_of_lt_of_eq (by decide) N_0.symm⟩)

/-- The block of the first product. -/
theorem prod_apply (r : Fin 768) (j : Fin 512) :
    k0_pay51 (F := Ideal) (kept m c) (iblk m c 4 t) (ValueIdx.ix2 r j) = ((dotOne m c r (col t j) : ℝ) : EReal) := by
  unfold kept k0_pay51 k0_pay48
  simp only [shapeCast_self]
  refine (Ideal.matmul_plain_apply (M := 768) (K := 4096) (N := 512) none _ _ _ r j).trans ?_
  refine Eq.trans (congrArg₂ (· + ·) (Scalars.zero_eq) (Finset.sum_congr rfl fun k _ => ?_))
    ((zero_add _).trans (coe_sum (fun k => (actX m c r k).toInt) (fun k => (wOne m c k (col t j)).toInt)))
  have e2 := read2 m c ⟨0, lt_of_lt_of_eq (by decide) N_0.symm⟩ r k
  have e4 := read4 m c t k j
  exact congrArg₂ (fun (a b : BitVec 8) => ((a.toInt : ℝ) : EReal) * ((b.toInt : ℝ) : EReal)) e2 e4

/-- The hidden block a point writes. -/
abbrev block : Vec Ideal S768x512 .i8 :=
  hCode (k0_pay51 (F := Ideal) (kept m c) (iblk m c 4 t)) (iblk m c 3 t) (iblk m c 5 t) (iblk m c 6 t)
    ((iblk m c 0 t : Vec Ideal S1x1 .f32) (Shape.Idx.first one))

theorem block_apply (r : Fin 768) (j : Fin 512) : block m c t (ValueIdx.ix2 r j) = hidden m c r (col t j) := by
  have e0 := read0 m c t one
  have e3 := read3 m c t r
  have e5 := read5 m c t j
  have e6 := read6 m c t j
  unfold block hCode hWord hidden
  rw [prod_apply, e0]
  refine congrArg (fun w => (clipWord w).setWidth 8) ?_
  exact congr (congrArg₂ (Scalars.kHidden _) (congrArg₂ (· * ·) e3 e5) e6) rfl

/-- The hidden block's values. -/
abbrev values : Vec Ideal S768x512 .bf16 :=
  hVal (k0_pay51 (F := Ideal) (kept m c) (iblk m c 4 t)) (iblk m c 3 t) (iblk m c 5 t) (iblk m c 6 t)
    ((iblk m c 0 t : Vec Ideal S1x1 .f32) (Shape.Idx.first one))

/-- What a point adds to the accumulator. -/
theorem add_apply (Y : Vec Ideal S768x4096 .f32) (r : Fin 768) (o : Fin 4096) :
    accum (F := Ideal) Y (values m c t) (iblk m c 7 t) (ValueIdx.ix2 r o)
      = Y (ValueIdx.ix2 r o) + (((∑ j ∈ Finset.range 512, term m c r o (512 * t.val + j) : ℤ) : ℝ) : EReal) := by
  unfold accum k0_pay1536 k0_pay1535
  simp only [shapeCast_self]
  refine congrArg (Y (ValueIdx.ix2 r o) + ·) ?_
  refine (Ideal.matmul_plain_apply (M := 768) (K := 512) (N := 4096) none _ _ _ r o).trans ?_
  have hs : ∑ j ∈ Finset.range 512, term m c r o (512 * t.val + j)
      = ∑ j : Fin 512, (hidden m c r (col t j)).toInt * (wTwo m c (col t j) o).toInt := by
    rw [Finset.sum_range]
    exact Finset.sum_congr rfl fun j _ => dif_pos (col t j).isLt
  rw [hs]
  refine Eq.trans (congrArg₂ (· + ·) (Scalars.zero_eq) (Finset.sum_congr rfl fun j _ => ?_))
    ((zero_add _).trans (coe_sum (fun j => (hidden m c r (col t j)).toInt) (fun j => (wTwo m c (col t j) o).toInt)))
  exact congrArg₂ (fun (a b : BitVec 8) => ((a.toInt : ℝ) : EReal) * ((b.toInt : ℝ) : EReal)) (block_apply m c t r j)
    (read7 m c t j o)

/-! ## The points in order -/

abbrev State := Vec Ideal S768x4096 .i8 × Vec Ideal S768x512 .i8 × Vec Ideal S768x4096 .bf16 × Vec Ideal S768x4096 .f32

/-- The hidden block of a point, its values and the accumulator it leaves, from the activations and the accumulator found. -/
abbrev blockOf (X : Vec Ideal S768x4096 .bf16) : Vec Ideal S768x512 .i8 :=
  hCode (k0_pay51 (F := Ideal) X (iblk m c 4 t)) (iblk m c 3 t) (iblk m c 5 t) (iblk m c 6 t)
    ((iblk m c 0 t : Vec Ideal S1x1 .f32) (Shape.Idx.first one))
abbrev accOf (X : Vec Ideal S768x4096 .bf16) (Y : Vec Ideal S768x4096 .f32) : Vec Ideal S768x4096 .f32 :=
  accum (F := Ideal) Y (hVal (k0_pay51 (F := Ideal) X (iblk m c 4 t)) (iblk m c 3 t) (iblk m c 5 t) (iblk m c 6 t)
    ((iblk m c 0 t : Vec Ideal S1x1 .f32) (Shape.Idx.first one))) (iblk m c 7 t)

section Cases

attribute [local irreducible] out0_A_11 sout0_A_0 sout0_A_3 out0_B_11 sout0_B_3 out0_C_10 out0_C_11 sout0_C_3

variable (s : State)

theorem codesA (h0 : t.val % 32 = 0) (h1 : ¬t.val % 32 = 31) :
    (stAt0 m c t.val t.isLt s).2.1 = blockOf m c t (k0_pay48 (F := Ideal) (iblk m c 2 t)) := by
  rw [stAt0_A m c t s h0 h1]
  dsimp only
  exact BlockA.codes ..

theorem keptA (h0 : t.val % 32 = 0) (h1 : ¬t.val % 32 = 31) :
    (stAt0 m c t.val t.isLt s).2.2.1 = k0_pay48 (F := Ideal) (iblk m c 2 t) := by
  rw [stAt0_A m c t s h0 h1]
  dsimp only
  exact BlockA.kept ..

theorem accA (h0 : t.val % 32 = 0) (h1 : ¬t.val % 32 = 31) :
    (stAt0 m c t.val t.isLt s).2.2.2 = accOf m c t (k0_pay48 (F := Ideal) (iblk m c 2 t)) (k0_pay49 (F := Ideal)) := by
  rw [stAt0_A m c t s h0 h1]
  dsimp only
  exact BlockA.acc ..

theorem codesB (h0 : ¬t.val % 32 = 0) (h1 : ¬t.val % 32 = 31) :
    (stAt0 m c t.val t.isLt s).2.1 = blockOf m c t s.2.2.1 := by
  rw [stAt0_B m c t s h0 h1]
  dsimp only
  exact BlockB.codes ..

theorem keptB (h0 : ¬t.val % 32 = 0) (h1 : ¬t.val % 32 = 31) : (stAt0 m c t.val t.isLt s).2.2.1 = s.2.2.1 := by
  rw [stAt0_B m c t s h0 h1]
  rfl

theorem accB (h0 : ¬t.val % 32 = 0) (h1 : ¬t.val % 32 = 31) :
    (stAt0 m c t.val t.isLt s).2.2.2 = accOf m c t s.2.2.1 s.2.2.2 := by
  rw [stAt0_B m c t s h0 h1]
  dsimp only
  exact BlockB.acc ..

theorem codesC (h0 : ¬t.val % 32 = 0) (h1 : t.val % 32 = 31) :
    (stAt0 m c t.val t.isLt s).2.1 = blockOf m c t s.2.2.1 := by
  rw [stAt0_C m c t s h0 h1]
  dsimp only
  exact BlockC.codes ..

theorem keptC (h0 : ¬t.val % 32 = 0) (h1 : t.val % 32 = 31) : (stAt0 m c t.val t.isLt s).2.2.1 = s.2.2.1 := by
  rw [stAt0_C m c t s h0 h1]
  rfl

theorem accC (h0 : ¬t.val % 32 = 0) (h1 : t.val % 32 = 31) :
    (stAt0 m c t.val t.isLt s).2.2.2 = accOf m c t s.2.2.1 s.2.2.2 := by
  rw [stAt0_C m c t s h0 h1]
  dsimp only
  exact BlockC.acc ..

theorem outsC (h0 : ¬t.val % 32 = 0) (h1 : t.val % 32 = 31) : (stAt0 m c t.val t.isLt s).1
    = yCode (accOf m c t s.2.2.1 s.2.2.2) (iblk m c 9 t) ((iblk m c 0 t : Vec Ideal S1x1 .f32) (Shape.Idx.first one))
        (iblk m c 8 t) ((iblk m c 1 t : Vec Ideal S1x1 .f32) (Shape.Idx.first one)) := by
  rw [stAt0_C m c t s h0 h1]
  dsimp only
  exact BlockC.outs ..

end Cases

/-- What the points up to `n` leave. -/
structure After (n : ℕ) (hn : n < cfg0.N) (s : State) : Prop where
  block : s.2.1 = block m c ⟨n, hn⟩
  kept : s.2.2.1 = kept m c
  sum : ∀ r o, s.2.2.2 (ValueIdx.ix2 r o) = (((∑ f ∈ Finset.range (512 * (n + 1)), term m c r o f : ℤ) : ℝ) : EReal)

theorem sum_step (n : ℕ) (r : Fin 768) (o : Fin 4096) :
    (((∑ f ∈ Finset.range (512 * n), term m c r o f : ℤ) : ℝ) : EReal)
      + (((∑ j ∈ Finset.range 512, term m c r o (512 * n + j) : ℤ) : ℝ) : EReal)
      = (((∑ f ∈ Finset.range (512 * (n + 1)), term m c r o f : ℤ) : ℝ) : EReal) := by
  rw [Nat.mul_succ, Finset.sum_range_add, ← EReal.coe_add, ← Int.cast_add]

theorem first (hn : 0 < cfg0.N) (s : State) : After m c 0 hn (stAt0 m c 0 hn s) := by
  have h1 : ¬(⟨0, hn⟩ : Fin cfg0.N).val % 32 = 31 := by show ¬0 % 32 = 31; decide
  refine ⟨codesA m c ⟨0, hn⟩ s rfl h1, keptA m c ⟨0, hn⟩ s rfl h1, fun r o => ?_⟩
  refine (congrFun (accA m c ⟨0, hn⟩ s rfl h1) _).trans ((add_apply m c ⟨0, hn⟩ _ r o).trans ?_)
  refine Eq.trans (congrArg (· + _) ?_) (sum_step m c 0 r o)
  rw [Nat.mul_zero, Finset.sum_range_zero, Int.cast_zero]
  exact Scalars.zero_eq

theorem step (n : ℕ) (hn : n + 1 < cfg0.N) (s : State) (h : After m c n (Nat.lt_of_succ_lt hn) s) :
    After m c (n + 1) hn (stAt0 m c (n + 1) hn s)
      ∧ (n + 1 = 31 → ∀ r o, (stAt0 m c (n + 1) hn s).1 (ValueIdx.ix2 r o)
          = (clipWord (yWord (((∑ f ∈ Finset.range (512 * (n + 2)), term m c r o f : ℤ) : ℝ) : EReal) (bTwo m c o)
            (Ideal.div (hScale m c * sTwo m c o) (yScale m c)))).setWidth 8) := by
  have h32 := lt_of_lt_of_eq hn (show cfg0.N = 32 from N_0)
  obtain ⟨-, hk, hs⟩ := h
  have h0 : ¬(⟨n + 1, hn⟩ : Fin cfg0.N).val % 32 = 0 := by show ¬(n + 1) % 32 = 0; omega
  have hsum : ∀ r o, accOf m c ⟨n + 1, hn⟩ (kept m c) s.2.2.2 (ValueIdx.ix2 r o)
      = (((∑ f ∈ Finset.range (512 * (n + 1 + 1)), term m c r o f : ℤ) : ℝ) : EReal) := fun r o =>
    (add_apply m c ⟨n + 1, hn⟩ _ r o).trans ((congrArg (· + _) (hs r o)).trans (sum_step m c (n + 1) r o))
  by_cases h1 : (⟨n + 1, hn⟩ : Fin cfg0.N).val % 32 = 31
  · have eb := codesC m c ⟨n + 1, hn⟩ s h0 h1
    have ek := keptC m c ⟨n + 1, hn⟩ s h0 h1
    have ea := accC m c ⟨n + 1, hn⟩ s h0 h1
    have eo := outsC m c ⟨n + 1, hn⟩ s h0 h1
    rw [hk] at eb ek ea eo
    refine ⟨⟨eb, ek, fun r o => (congrFun ea _).trans (hsum r o)⟩, fun _ r o => (congrFun eo _).trans ?_⟩
    exact congrArg (fun w => (clipWord w).setWidth 8)
      (congr (congrArg₂ yWord (hsum r o) (read9 m c ⟨n + 1, hn⟩ o))
        (congrArg₂ Ideal.div (congrArg₂ (fun (a b : EReal) => a * b) (read0 m c ⟨n + 1, hn⟩ one) (read8 m c ⟨n + 1, hn⟩ o))
          (read1 m c ⟨n + 1, hn⟩ one)))
  · have eb := codesB m c ⟨n + 1, hn⟩ s h0 h1
    have ek := keptB m c ⟨n + 1, hn⟩ s h0 h1
    have ea := accB m c ⟨n + 1, hn⟩ s h0 h1
    rw [hk] at eb ek ea
    exact ⟨⟨eb, ek, fun r o => (congrFun ea _).trans (hsum r o)⟩, fun h => absurd (show (n + 1) % 32 = 31 by omega) h1⟩

/-- The points' contents in order. -/
abbrev run (n : ℕ) (hn : 0 + n < cfg0.N) : State := Pipeline.accAt (fun n h => stAt0 m c n h junk0) (stAt0 m c) 0 n hn

theorem at_eq {n n' : ℕ} (e : n = n') (hn : n < cfg0.N) (hn' : n' < cfg0.N) (s : State) : stAt0 m c n hn s = stAt0 m c n' hn' s := by
  subst e; rfl

theorem run_succ (n : ℕ) (hn : 0 + (n + 1) < cfg0.N) (hn' : n + 1 < cfg0.N) :
    run m c (n + 1) hn = stAt0 m c (n + 1) hn' (run m c n (Nat.lt_of_succ_lt hn)) :=
  (Pipeline.accAt_succ _ _ 0 n hn).trans (at_eq m c (Nat.zero_add (n + 1)) hn hn' _)

theorem after : ∀ (n : ℕ) (hn : n < cfg0.N) (hn' : 0 + n < cfg0.N), After m c n hn (run m c n hn')
  | 0, hn, _ => first m c hn junk0
  | n + 1, hn, hn' => by
    rw [run_succ m c n hn' hn]
    exact (step m c n hn _ (after n (Nat.lt_of_succ_lt hn) (Nat.lt_of_succ_lt hn'))).1

/-! ## The results -/

theorem G11_eq : G11 m c = fun i : S768x16384.Idx => hidden m c (i 0) (i 1) := by
  funext i
  have hi0 : (i 0).val < 768 := (i 0).isLt
  have hi1 : (i 1).val < 16384 := (i 1).isLt
  have hp : pt11Of i = (i 1).val / 512 := by show 32 * ((i 0).val / 768 - 0) + 1 * ((i 1).val / 512 - 0) = _; omega
  have hlt : pt11Of i < cfg0.N := by rw [hp, show cfg0.N = 32 from N_0]; omega
  have hl : loc11Of i = ValueIdx.ix2 (n0 := 768) (n1 := 512) (i 0) ⟨(i 1).val % 512, Nat.mod_lt _ (by decide)⟩ := by
    funext a
    match a with
    | ⟨0, _⟩ => exact Fin.ext (Nat.mod_eq_of_lt hi0)
    | ⟨1, _⟩ => rfl
  unfold G11
  rw [dif_pos hlt]
  refine (congrFun (after m c (pt11Of i) hlt _).block (loc11Of i)).trans ?_
  rw [hl]
  refine (block_apply m c ⟨pt11Of i, hlt⟩ (i 0) _).trans (congrArg (hidden m c (i 0)) (Fin.ext ?_))
  show 512 * pt11Of i + (i 1).val % 512 = (i 1).val
  rw [hp]
  omega

theorem last (n : ℕ) (hn : 0 + n < cfg0.N) (h : n = 31) (r : Fin 768) (o : Fin 4096) :
    (run m c n hn).1 (ValueIdx.ix2 r o) = out m c r o := by
  cases n with
  | zero => exact absurd h (by decide)
  | succ n =>
    have hn' : n + 1 < cfg0.N := lt_of_eq_of_lt (Nat.zero_add _).symm hn
    rw [run_succ m c n hn hn']
    refine ((step m c n hn' _ (after m c n (Nat.lt_of_succ_lt hn') (Nat.lt_of_succ_lt hn))).2 h r o).trans ?_
    have hs : ∑ f ∈ Finset.range (512 * (n + 2)), term m c r o f = dotTwo m c r o := by
      rw [show 512 * (n + 2) = 16384 by omega, Finset.sum_range]
      exact Finset.sum_congr rfl fun f _ => dif_pos f.isLt
    rw [hs]
    rfl

theorem G10_eq : G10 m c = fun i : S768x4096.Idx => out m c (i 0) (i 1) := by
  refine (G10_last m c).trans (funext fun i => ?_)
  have hi : i = ValueIdx.ix2 (n0 := 768) (n1 := 4096) (i 0) (i 1) := ValueIdx.eq_ix2 i
  exact (congrArg _ hi).trans (last m c 31 _ rfl (i 0) (i 1))

end Cert.Proof.Fold
-- ==== Proof.Range.lean ====
/-
  The precondition, read element by element: the scales are real numbers, within the ranges in which the kernel's and the
  reference's elements agree.
-/
module

public import proofs.«01_k».proof.Pre_scales_in_range
public import proofs.«01_k».proof.Proof.Requant
public import Idealize.ShloMosaic.Lib.Pipeline.Value
public import Idealize.ShloMosaic.Lib.Pointwise.Index

@[expose] public section

noncomputable section

namespace Cert.Proof.Range

open Idealize.ShloMosaic Cert.Proof.Scalars Cert.Proof.Powers Cert.Proof.Requant
open Cert.Pre_scales_in_range (S2x384x4096 S2x384 S4096x16384 S16384 S_ S16384x4096 S4096 S2x384x16384)

/-! ## The bounds -/

theorem lo_eq : wordF 0x01000000#32 = ((2 ^ (-125 : ℤ) : ℝ) : EReal) := by
  simp [wordF, Ideal.ofBits, Ideal.ieee, -EReal.coe_mul]; norm_num
theorem hi_eq : wordF 0x3B800000#32 = ((2 ^ (-8 : ℤ) : ℝ) : EReal) := by
  simp [wordF, Ideal.ofBits, Ideal.ieee, -EReal.coe_mul]; norm_num
theorem bias_eq : wordF 0x4E800000#32 = ((1073741824 : ℝ) : EReal) := by
  simp [wordF, Ideal.ofBits, Ideal.ieee, -EReal.coe_mul]; norm_num
theorem mlo_eq : wordF 0x0D800000#32 = ((2 ^ (-100 : ℤ) : ℝ) : EReal) := by
  simp [wordF, Ideal.ofBits, Ideal.ieee, -EReal.coe_mul]; norm_num
theorem mhi_eq : wordF 0x71800000#32 = ((2 ^ (100 : ℤ) : ℝ) : EReal) := by
  have e : (2 : ℝ) ^ (100 : ℤ) = 1267650600228229401496703205376 := by norm_num
  rw [e]
  simp [wordF, Ideal.ofBits, Ideal.ieee, -EReal.coe_mul]; norm_num

/-! ## Bounded extended reals -/

theorem and_one : ∀ a b : BitVec 1, IntOp.andi a b = 1#1 → a = 1#1 ∧ b = 1#1 := by decide

theorem of_decide {p : Prop} [Decidable p] (h : BitVec.ofBool (decide p) = 1#1) : p := by
  by_cases hp : p
  · exact hp
  · rw [decide_eq_false hp] at h
    exact absurd h (by decide)

theorem of_oge {x y : EReal} (h : Ideal.cmp .oge x y = 1#1) : y ≤ x := of_decide h
theorem of_ole {x y : EReal} (h : Ideal.cmp .ole x y = 1#1) : x ≤ y := of_decide h

theorem real_of_between {x : EReal} {a b : ℝ} (h1 : (a : EReal) ≤ x) (h2 : x ≤ (b : EReal)) : ∃ r : ℝ, x = (r : EReal) ∧ a ≤ r ∧ r ≤ b := by
  induction x with
  | bot => exact absurd (le_bot_iff.1 h1) (EReal.coe_ne_bot a)
  | top => exact absurd (top_le_iff.1 h2) (EReal.coe_ne_top b)
  | coe r => exact ⟨r, rfl, EReal.coe_le_coe_iff.1 h1, EReal.coe_le_coe_iff.1 h2⟩

theorem real_of_abs_le {x : EReal} {b : ℝ} (h : max x (-x) ≤ (b : EReal)) : ∃ r : ℝ, x = (r : EReal) ∧ |r| ≤ b := by
  induction x with
  | bot => exact absurd (top_le_iff.1 ((le_max_right ⊥ (-⊥)).trans h)) (EReal.coe_ne_top b)
  | top => exact absurd (top_le_iff.1 ((le_max_left ⊤ (-⊤)).trans h)) (EReal.coe_ne_top b)
  | coe r =>
    rw [abs_eq] at h
    exact ⟨r, rfl, EReal.coe_le_coe_iff.1 h⟩

/-- A real quotient by a nonzero real is of a real. -/
theorem real_of_div {x : EReal} {r v : ℝ} (hr : r ≠ 0) (h : Ideal.div x (r : EReal) = (v : EReal)) : ∃ β : ℝ, x = (β : EReal) := by
  rw [Ideal.div_coe hr] at h
  rcases lt_or_gt_of_ne (one_div_ne_zero hr) with hs | hs
  · induction x with
    | bot => rw [EReal.bot_mul_coe_of_neg hs] at h; exact absurd h.symm (EReal.coe_ne_top v)
    | top => rw [EReal.top_mul_coe_of_neg hs] at h; exact absurd h.symm (EReal.coe_ne_bot v)
    | coe β => exact ⟨β, rfl⟩
  · induction x with
    | bot => rw [EReal.bot_mul_coe_of_pos hs] at h; exact absurd h.symm (EReal.coe_ne_bot v)
    | top => rw [EReal.top_mul_coe_of_pos hs] at h; exact absurd h.symm (EReal.coe_ne_top v)
    | coe β => exact ⟨β, rfl⟩

/-- A nonzero real quotient of a positive real is by a nonzero real. -/
theorem real_of_quot {y : EReal} {r v : ℝ} (hr : 0 < r) (hv : v ≠ 0) (h : Ideal.div (r : EReal) y = (v : EReal)) :
    ∃ η : ℝ, y = (η : EReal) ∧ η ≠ 0 := by
  have hr' : (0 : EReal) < (r : EReal) := EReal.coe_pos.2 hr
  induction y with
  | bot =>
    unfold Ideal.div at h
    simp at h
    exact absurd (EReal.coe_eq_zero.1 h.symm) hv
  | top =>
    unfold Ideal.div at h
    simp at h
    exact absurd (EReal.coe_eq_zero.1 h.symm) hv
  | coe η =>
    refine ⟨η, rfl, ?_⟩
    rintro rfl
    unfold Ideal.div at h
    simp [hr', hr] at h

/-! ## The precondition -/

section Pre

open Cert.Pre_scales_in_range (Facts)

variable [Facts] (x0 : IVec S2x384x4096 8) (x1 : FVec Ideal S2x384 .f32) (x2 : IVec S4096x16384 8) (x3 x4 : FVec Ideal S16384 .f32)
variable (x5 : FVec Ideal S_ .f32) (x6 : IVec S16384x4096 8) (x7 : FVec Ideal S4096 .f32) (x8 : IVec S4096 32) (x9 : FVec Ideal S_ .f32)

theorem bcast_rows (b : Fin 2) (s : Fin 384) (f : Fin 16384) :
    broadcastInDim S2x384x16384 ![0, 1] Facts.bcast_S2x384_S2x384x16384_0_1 x1 (ix3 b s f) = x1 (ix2 b s) :=
  broadcastInDim_apply _ _ x1 _ (ix2 b s) (fun a => match a with
    | ⟨0, _⟩ => by simp [S2x384, ix2, ix3]
    | ⟨1, _⟩ => by simp [S2x384, ix2, ix3])

theorem bcast_cols (x : FVec Ideal S16384 .f32) (b : Fin 2) (s : Fin 384) (f : Fin 16384) :
    broadcastInDim S2x384x16384 ![2] Facts.bcast_S16384_S2x384x16384_2 x (ix3 b s f) = x (ix1 f) :=
  broadcastInDim_apply _ _ x _ (ix1 f) (fun a => match a with
    | ⟨0, _⟩ => by simp [S16384, ix1, ix3])

theorem bcast_all (x : FVec Ideal S_ .f32) (i : S2x384x16384.Idx) :
    broadcastInDim S2x384x16384 ![] Facts.bcast_S_S2x384x16384 x i = x ix0 :=
  broadcastInDim_apply _ _ x _ ix0 (fun a => a.elim0)

theorem bcast_out (x : FVec Ideal S_ .f32) (i : S4096.Idx) :
    broadcastInDim S4096 ![] Facts.bcast_S_S4096 x i = x ix0 :=
  broadcastInDim_apply _ _ x _ ix0 (fun a => a.elim0)

/-- What the precondition says of the scales of one hidden element. -/
theorem hidden_range (h : (Cert.Pre_scales_in_range.fn (F := Ideal) x0 x1 x2 x3 x4 x5 x6 x7 x8 x9).1 = fun _ => 1#1)
    (b : Fin 2) (s : Fin 384) (f : Fin 16384) :
    ∃ r β η : ℝ, x1 (ix2 b s) * x3 (ix1 f) = (r : EReal) ∧ x4 (ix1 f) = (β : EReal) ∧ x5 ix0 = (η : EReal) ∧ InRange r β η := by
  have hi : IntOp.andi (IntOp.andi (IntOp.andi
      (IntOp.andi
        (Ideal.cmp .oge (broadcastInDim S2x384x16384 ![0, 1] Facts.bcast_S2x384_S2x384x16384_0_1 x1 (ix3 b s f)
          * broadcastInDim S2x384x16384 ![2] Facts.bcast_S16384_S2x384x16384_2 x3 (ix3 b s f)) (wordF 0x01000000#32))
        (Ideal.cmp .ole (broadcastInDim S2x384x16384 ![0, 1] Facts.bcast_S2x384_S2x384x16384_0_1 x1 (ix3 b s f)
          * broadcastInDim S2x384x16384 ![2] Facts.bcast_S16384_S2x384x16384_2 x3 (ix3 b s f)) (wordF 0x3B800000#32)))
      (Ideal.cmp .ole
        (absf (F := Ideal) (fun _ : S_.Idx => Ideal.div (broadcastInDim S2x384x16384 ![2] Facts.bcast_S16384_S2x384x16384_2 x4 (ix3 b s f))
          (broadcastInDim S2x384x16384 ![0, 1] Facts.bcast_S2x384_S2x384x16384_0_1 x1 (ix3 b s f)
            * broadcastInDim S2x384x16384 ![2] Facts.bcast_S16384_S2x384x16384_2 x3 (ix3 b s f))) ix0) (wordF 0x4E800000#32)))
      (Ideal.cmp .oge (Ideal.div (broadcastInDim S2x384x16384 ![0, 1] Facts.bcast_S2x384_S2x384x16384_0_1 x1 (ix3 b s f)
            * broadcastInDim S2x384x16384 ![2] Facts.bcast_S16384_S2x384x16384_2 x3 (ix3 b s f))
          (broadcastInDim S2x384x16384 ![] Facts.bcast_S_S2x384x16384 x5 (ix3 b s f))) (wordF 0x0D800000#32)))
      (Ideal.cmp .ole (Ideal.div (broadcastInDim S2x384x16384 ![0, 1] Facts.bcast_S2x384_S2x384x16384_0_1 x1 (ix3 b s f)
            * broadcastInDim S2x384x16384 ![2] Facts.bcast_S16384_S2x384x16384_2 x3 (ix3 b s f))
          (broadcastInDim S2x384x16384 ![] Facts.bcast_S_S2x384x16384 x5 (ix3 b s f))) (wordF 0x71800000#32)) = 1#1 :=
    congrFun h (ix3 b s f)
  rw [bcast_rows, bcast_cols, bcast_cols, bcast_all] at hi
  obtain ⟨hi, h5⟩ := and_one _ _ hi
  obtain ⟨hi, h4⟩ := and_one _ _ hi
  obtain ⟨hi, h3⟩ := and_one _ _ hi
  obtain ⟨h1, h2⟩ := and_one _ _ hi
  replace h1 := of_oge h1
  replace h2 := of_ole h2
  replace h3 := of_ole h3
  replace h4 := of_oge h4
  replace h5 := of_ole h5
  rw [lo_eq] at h1
  rw [hi_eq] at h2
  rw [bias_eq] at h3
  rw [mlo_eq] at h4
  rw [mhi_eq] at h5
  obtain ⟨r, er, r1, r2⟩ := real_of_between h1 h2
  have hr : 0 < r := lt_of_lt_of_le (by positivity) r1
  rw [er] at h3 h4 h5
  obtain ⟨v, ev, v1⟩ := real_of_abs_le (x := Ideal.div (x4 (ix1 f)) (r : EReal)) h3
  obtain ⟨β, eβ⟩ := real_of_div hr.ne' ev
  obtain ⟨w, ew, w1, w2⟩ := real_of_between h4 h5
  have hw : w ≠ 0 := (lt_of_lt_of_le (by positivity) w1).ne'
  obtain ⟨η, eη, hη⟩ := real_of_quot hr hw ew
  refine ⟨r, β, η, er, eβ, eη, r1, r2, ?_, ?_, ?_⟩
  · rw [eβ, div_real hr.ne'] at ev
    rw [EReal.coe_eq_coe_iff.1 ev]
    exact v1
  · rw [eη, div_real hη] at ew
    rw [EReal.coe_eq_coe_iff.1 ew]
    exact w1
  · rw [eη, div_real hη] at ew
    rw [EReal.coe_eq_coe_iff.1 ew]
    exact w2

/-- What the precondition says of the multiplier of one output column. -/
theorem out_range (h : (Cert.Pre_scales_in_range.fn (F := Ideal) x0 x1 x2 x3 x4 x5 x6 x7 x8 x9).2 = fun _ => 1#1) (o : Fin 4096) :
    ∃ (μ : ℝ) (E : ℤ), Ideal.div (x5 ix0 * x7 (ix1 o)) (x9 ix0) = (μ : EReal) ∧ IsExp μ E ∧ -110 ≤ E ∧ E ≤ 100 := by
  have hi : IntOp.andi
      (Ideal.cmp .oge
        (absf (F := Ideal) (fun _ : S_.Idx => Ideal.div (broadcastInDim S4096 ![] Facts.bcast_S_S4096 x5 (ix1 o) * x7 (ix1 o))
          (broadcastInDim S4096 ![] Facts.bcast_S_S4096 x9 (ix1 o))) ix0) (wordF 0x0D800000#32))
      (Ideal.cmp .ole
        (absf (F := Ideal) (fun _ : S_.Idx => Ideal.div (broadcastInDim S4096 ![] Facts.bcast_S_S4096 x5 (ix1 o) * x7 (ix1 o))
          (broadcastInDim S4096 ![] Facts.bcast_S_S4096 x9 (ix1 o))) ix0) (wordF 0x71800000#32)) = 1#1 :=
    congrFun h (ix1 o)
  rw [bcast_out, bcast_out] at hi
  obtain ⟨h4, h5⟩ := and_one _ _ hi
  replace h4 := of_oge h4
  replace h5 := of_ole h5
  rw [mlo_eq] at h4
  rw [mhi_eq] at h5
  obtain ⟨μ, eμ, μ2⟩ := real_of_abs_le (x := Ideal.div (x5 ix0 * x7 (ix1 o)) (x9 ix0)) h5
  have μ1 : (2 : ℝ) ^ (-100 : ℤ) ≤ |μ| := by
    change _ ≤ max (Ideal.div (x5 ix0 * x7 (ix1 o)) (x9 ix0)) (-(Ideal.div (x5 ix0 * x7 (ix1 o)) (x9 ix0))) at h4
    rw [eμ, abs_eq] at h4
    exact EReal.coe_le_coe_iff.1 h4
  have hμ : μ ≠ 0 := by
    rintro rfl
    rw [abs_zero] at μ1
    have : (0 : ℝ) < 2 ^ (-100 : ℤ) := by positivity
    linarith
  obtain ⟨E, hE⟩ := IsExp.exists hμ
  refine ⟨μ, E, eμ, hE, le_trans (by norm_num) (hE.ge μ1), ?_⟩
  exact (zpow_le_zpow_iff_right₀ (by norm_num : (1 : ℝ) < 2)).1 (hE.1.trans μ2)

end Pre

end Cert.Proof.Range
-- ==== Proof.Reference.lean ====
/-
  The reference's results, element by element: each is the scalar computation of `Scalars.lean`, at the sums of integer
  products that are its two contractions.
-/
module

public import proofs.«01_k».proof.Proof.Gen.ReferenceIdeal.Read
public import proofs.«01_k».proof.Proof.Scalars
public import proofs.«01_k».proof.Proof.Sums
public import Idealize.ShloMosaic.Lib.Pointwise.Index

@[expose] public section

noncomputable section

namespace Cert.Proof.Reference

open Idealize.ShloMosaic Cert.ReferenceIdeal Cert.ReferenceIdeal.Read Cert.Proof.Scalars
open Cert.Proof.Words (clipWord)
open Cert.Proof.Sums
open scoped BigOperators

variable (x0 : (⟨S2x384x4096, .i8⟩ : BufTy).Contents (Elt Ideal)) (x1 : (⟨S2x384, .f32⟩ : BufTy).Contents (Elt Ideal))
  (x2 : (⟨S4096x16384, .i8⟩ : BufTy).Contents (Elt Ideal)) (x3 x4 : (⟨S16384, .f32⟩ : BufTy).Contents (Elt Ideal))
  (x5 : (⟨S_, .f32⟩ : BufTy).Contents (Elt Ideal)) (x6 : (⟨S16384x4096, .i8⟩ : BufTy).Contents (Elt Ideal))
  (x7 : (⟨S4096, .f32⟩ : BufTy).Contents (Elt Ideal)) (x8 : (⟨S4096, .i32⟩ : BufTy).Contents (Elt Ideal))
  (x9 : (⟨S_, .f32⟩ : BufTy).Contents (Elt Ideal))

/-! ## The hidden layer -/

section Hidden

variable (i : S2x384x16384.Idx)

/-- The accumulator's scale. -/
theorem scale_eq : val_main_v4 (F := Ideal) x1 x3 i = x1 (ix2 (i 0) (i 1)) * x3 (ix1 (i 2)) := by
  rw [val_main_v4_apply, val_main_v2_apply, val_main_v0_apply, val_main_v3_apply, val_main_v1_apply]
  refine congrArg₂ (fun (a b : EReal) => a * b) (congrArg x1 ?_) (congrArg x3 ?_)
  · funext a
    match a with
    | ⟨0, _⟩ => rfl
    | ⟨1, _⟩ => rfl
  · funext a
    match a with
    | ⟨0, _⟩ => rfl

theorem bias_eq : val_main_v6 (F := Ideal) x4 i = x4 (ix1 (i 2)) := by
  rw [val_main_v6_apply, val_main_v5_apply]
  refine congrArg x4 (funext fun a => ?_)
  match a with
  | ⟨0, _⟩ => rfl

theorem hscale_eq : val_main_v101 (F := Ideal) x5 i = x5 ix0 := by
  rw [val_main_v101_apply]
  exact congrArg x5 (funext fun a => a.elim0)

theorem se_eq : val_main_v20 (F := Ideal) x1 x3 i = kSe (val_main_v4 (F := Ideal) x1 x3 i) := by
  rw [val_main_v20_apply, val_main_v19_apply, val_main_cst_apply]
  rfl

theorem seExp_eq : val_main_v29 (F := Ideal) x1 x3 i = rExp (kSe (val_main_v4 (F := Ideal) x1 x3 i)) := by
  rw [val_main_v29_apply, val_main_v28_apply, val_main_c_apply, val_main_v27_apply, val_main_v26_apply, val_main_v25_apply, val_main_v24_apply, val_main_v23_apply, val_main_cst_0_apply, val_main_v22_apply, val_main_v21_apply, se_eq]
  rfl

theorem seShift_eq : val_main_v36 (F := Ideal) x1 x3 i = rT (kSe (val_main_v4 (F := Ideal) x1 x3 i)) := by
  rw [val_main_v36_apply, val_main_v35_apply, val_main_c_2_apply, seExp_eq]
  rfl

theorem se2_eq : val_main_v40 (F := Ideal) x1 x3 i = rSe2 (val_main_v4 (F := Ideal) x1 x3 i) := by
  rw [val_main_v40_apply, val_main_v39_apply, val_main_v38_apply, val_main_cst_3_apply, val_main_v37_apply, seShift_eq, se_eq]
  rfl

theorem b_eq : val_main_v44 (F := Ideal) x1 x3 i = rB (val_main_v4 (F := Ideal) x1 x3 i) := by
  rw [val_main_v44_apply, val_main_v43_apply, val_main_v42_apply, val_main_v41_apply, val_main_cst_4_apply, se2_eq]
  rfl

theorem c_eq : val_main_v49 (F := Ideal) x1 x3 i = rC (val_main_v4 (F := Ideal) x1 x3 i) := by
  rw [val_main_v49_apply, val_main_v48_apply, val_main_v47_apply, val_main_v46_apply, val_main_cst_5_apply, val_main_v45_apply, se2_eq]
  rfl

theorem erf0_eq : val_main_v52 (F := Ideal) x1 x3 i = kErf0 (rSe2 (val_main_v4 (F := Ideal) x1 x3 i)) := by
  rw [val_main_v52_apply, val_main_v50_apply, val_main_v51_apply, val_main_cst_6_apply, se2_eq]
  rfl

theorem erfExp_eq : val_main_v61 (F := Ideal) x1 x3 i = rExp (kErf0 (rSe2 (val_main_v4 (F := Ideal) x1 x3 i))) := by
  rw [val_main_v61_apply, val_main_v60_apply, val_main_c_8_apply, val_main_v59_apply, val_main_v58_apply, val_main_v57_apply, val_main_v56_apply, val_main_v55_apply, val_main_cst_7_apply, val_main_v54_apply, val_main_v53_apply, erf0_eq]
  rfl

theorem erfShift_eq : val_main_v68 (F := Ideal) x1 x3 i = rT (kErf0 (rSe2 (val_main_v4 (F := Ideal) x1 x3 i))) := by
  rw [val_main_v68_apply, val_main_v67_apply, val_main_c_10_apply, erfExp_eq]
  rfl

theorem erf_eq : val_main_v72 (F := Ideal) x1 x3 i = rErf (val_main_v4 (F := Ideal) x1 x3 i) := by
  rw [val_main_v72_apply, val_main_v71_apply, val_main_v70_apply, val_main_cst_11_apply, val_main_v69_apply, erfShift_eq, erf0_eq]
  rfl

theorem one_eq : val_main_v76 (F := Ideal) x1 x3 i = rOne (val_main_v4 (F := Ideal) x1 x3 i) := by
  rw [val_main_v76_apply, val_main_v75_apply, val_main_v74_apply, val_main_v73_apply, val_main_cst_12_apply, erf_eq]
  rfl

theorem mult_eq : val_main_v102 (F := Ideal) x1 x3 x5 i = rMult (val_main_v4 (F := Ideal) x1 x3 i) (x5 ix0) := by
  rw [val_main_v102_apply, val_main_v79_apply, val_main_v77_apply, val_main_v78_apply, val_main_cst_13_apply, erf_eq, hscale_eq]
  rfl

theorem multExp_eq : val_main_v111 (F := Ideal) x1 x3 x5 i = rExp (rMult (val_main_v4 (F := Ideal) x1 x3 i) (x5 ix0)) := by
  rw [val_main_v111_apply, val_main_v110_apply, val_main_c_18_apply, val_main_v109_apply, val_main_v108_apply, val_main_v107_apply, val_main_v106_apply, val_main_v105_apply, val_main_cst_17_apply, val_main_v104_apply, val_main_v103_apply, mult_eq]
  rfl

theorem m_eq : val_main_v120 (F := Ideal) x1 x3 x5 i = rM (rMult (val_main_v4 (F := Ideal) x1 x3 i) (x5 ix0)) := by
  rw [val_main_v120_apply, val_main_v119_apply, val_main_v118_apply, val_main_v117_apply, val_main_cst_20_apply, val_main_v116_apply, val_main_v115_apply, val_main_v114_apply, val_main_cst_19_apply, val_main_v113_apply, val_main_v112_apply, multExp_eq, mult_eq]
  rfl

theorem k_eq : val_main_v122 (F := Ideal) x1 x3 x5 i = rK 0#32 (rMult (val_main_v4 (F := Ideal) x1 x3 i) (x5 ix0)) := by
  rw [val_main_v122_apply, val_main_v121_apply, val_main_c_21_apply, multExp_eq]
  rfl

theorem q_eq : val_main_v18 (F := Ideal) x0 x1 x2 x3 x4 i = kQ (val_main_v16 (F := Ideal) x0 x2 i) (val_main_v4 (F := Ideal) x1 x3 i) (val_main_v6 (F := Ideal) x4 i) := by
  rw [val_main_v18_apply, val_main_v17_apply, val_main_v9_apply, val_main_v8_apply, val_main_v7_apply]
  rfl

theorem d_eq : val_main_v93 (F := Ideal) x0 x1 x2 x3 x4 i = rD (val_main_v4 (F := Ideal) x1 x3 i) (val_main_v18 (F := Ideal) x0 x1 x2 x3 x4 i) := by
  rw [val_main_v93_apply, val_main_v92_apply, val_main_v90_apply, val_main_v82_apply, val_main_v81_apply, val_main_c_14_apply, val_main_v85_apply, val_main_v80_apply, val_main_v84_apply, val_main_v83_apply, val_main_c_15_apply, val_main_v89_apply, val_main_v80_apply, val_main_v88_apply, val_main_v86_apply, val_main_v87_apply, val_main_c_16_apply, val_main_v91_apply, seShift_eq, b_eq]
  rfl

theorem p_eq : val_main_v95 (F := Ideal) x0 x1 x2 x3 x4 i = rP (val_main_v4 (F := Ideal) x1 x3 i) (val_main_v18 (F := Ideal) x0 x1 x2 x3 x4 i) := by
  rw [val_main_v95_apply, val_main_v94_apply, d_eq, c_eq]
  rfl

theorem e_eq : val_main_v98 (F := Ideal) x0 x1 x2 x3 x4 i = rE (val_main_v4 (F := Ideal) x1 x3 i) (val_main_v18 (F := Ideal) x0 x1 x2 x3 x4 i) := by
  rw [val_main_v98_apply, val_main_v97_apply, p_eq, erfShift_eq]
  rfl

theorem round_eq (j) : val_main_v124 (F := Ideal) j = IntOp.shrsi .host (IntOp.shli .host 1#32 14#32) 1#32 := by
  rw [val_main_v124_apply, val_main_v123_apply]
  rfl

theorem v_eq : val_main_v128 (F := Ideal) x0 x1 x2 x3 x4 i = rV (val_main_v4 (F := Ideal) x1 x3 i) (val_main_v18 (F := Ideal) x0 x1 x2 x3 x4 i) := by
  rw [val_main_v128_apply, val_main_v126_apply, val_main_v100_apply, val_main_v99_apply, e_eq, one_eq, val_main_v125_apply, round_eq, val_main_v127_apply, val_main_c_25_apply]
  rfl

/-- An element of the hidden layer before its clip. -/
theorem word_eq : val_main_v135 (F := Ideal) x0 x1 x2 x3 x4 x5 i = rHidden (val_main_v16 (F := Ideal) x0 x2 i) (val_main_v4 (F := Ideal) x1 x3 i) (val_main_v6 (F := Ideal) x4 i) (x5 ix0) := by
  rw [val_main_v135_apply, val_main_v134_apply, val_main_v129_apply, v_eq, m_eq, val_main_v133_apply, val_main_v132_apply, val_main_c_27_apply, val_main_v131_apply, val_main_v130_apply, val_main_c_26_apply, k_eq, q_eq]
  rfl

theorem code_eq : val_main_v137 (F := Ideal) x0 x1 x2 x3 x4 x5 i = (clipWord (val_main_v135 (F := Ideal) x0 x1 x2 x3 x4 x5 i)).setWidth 8 := by
  rw [val_main_v137_apply, val_main_v136_apply, val_main_call3_v4_apply, val_main_call3_v3_apply, val_main_c_29_apply, val_main_call3_v2_apply, val_main_call3_v1_apply, val_main_call3_v0_apply, val_main_c_28_apply]
  rfl

end Hidden

/-! ## The contractions -/

/-- The value of a byte read through a word. -/
theorem byte_val (a : BitVec 8) : valF (a.signExtend 32) = ((a.toInt : ℝ) : EReal) := by
  unfold valF
  rw [BitVec.toInt_signExtend_of_le (by decide)]

theorem dotOne_eq (i : S2x384x16384.Idx) : val_main_v16 (F := Ideal) x0 x2 i
    = (((∑ k : Fin 4096, (x0 (ix3 (i 0) (i 1) k)).toInt * (x2 (ix2 k (i 2))).toInt : ℤ) : ℝ) : EReal) := by
  rw [val_main_v16_apply, ← coe_sum]
  refine Finset.sum_congr rfl fun k _ => ?_
  rw [val_main_v14_apply, val_main_v11_apply, val_main_v10_apply, val_main_v15_apply, val_main_v13_apply, val_main_v12_apply]
  refine (congrArg₂ (· * ·) (byte_val _) (byte_val _)).trans ?_
  have el : lidx_main_v16 i k = ix3 (i 0) (i 1) k := by
    funext a
    match a with
    | ⟨0, _⟩ => rfl
    | ⟨1, _⟩ => rfl
    | ⟨2, _⟩ => rfl
  have er : ridx_main_v16 i k = ix2 k (i 2) := by
    funext a
    match a with
    | ⟨0, _⟩ => rfl
    | ⟨1, _⟩ => rfl
  rw [el, er]
  rfl

theorem dotTwo_eq (i : S2x384x4096.Idx) : val_main_v144 (F := Ideal) x0 x1 x2 x3 x4 x5 x6 i
    = (((∑ f : Fin 16384, (val_main_v137 (F := Ideal) x0 x1 x2 x3 x4 x5 (ix3 (i 0) (i 1) f)).toInt * (x6 (ix2 f (i 2))).toInt : ℤ) : ℝ) : EReal) := by
  rw [val_main_v144_apply, ← coe_sum]
  refine Finset.sum_congr rfl fun k _ => ?_
  rw [val_main_v142_apply, val_main_v139_apply, val_main_v138_apply, val_main_v143_apply, val_main_v141_apply, val_main_v140_apply]
  refine (congrArg₂ (· * ·) (byte_val _) (byte_val _)).trans ?_
  have el : lidx_main_v144 i k = ix3 (i 0) (i 1) k := by
    funext a
    match a with
    | ⟨0, _⟩ => rfl
    | ⟨1, _⟩ => rfl
    | ⟨2, _⟩ => rfl
  have er : ridx_main_v144 i k = ix2 k (i 2) := by
    funext a
    match a with
    | ⟨0, _⟩ => rfl
    | ⟨1, _⟩ => rfl
  rw [el, er]
  rfl

/-- The hidden layer. -/
theorem hidden_eq (i : S2x384x16384.Idx) : val_main_v137 (F := Ideal) x0 x1 x2 x3 x4 x5 i = (clipWord (rHidden
    (((∑ k : Fin 4096, (x0 (ix3 (i 0) (i 1) k)).toInt * (x2 (ix2 k (i 2))).toInt : ℤ) : ℝ) : EReal)
    (x1 (ix2 (i 0) (i 1)) * x3 (ix1 (i 2))) (x4 (ix1 (i 2))) (x5 ix0))).setWidth 8 := by
  rw [code_eq, word_eq, dotOne_eq, scale_eq, bias_eq]

/-! ## The output layer -/

section Output

variable (j : S4096.Idx)

theorem outMult_eq : val_main_v152 (F := Ideal) x5 x7 x9 j = Ideal.div (x5 ix0 * x7 j) (x9 ix0) := by
  rw [val_main_v152_apply, val_main_v150_apply, val_main_v149_apply, val_main_v151_apply]
  exact congrArg₂ Ideal.div (congrArg (· * x7 j) (congrArg x5 (funext fun a => a.elim0)))
    (congrArg x9 (funext fun a => a.elim0))

theorem outExp_eq : val_main_v161 (F := Ideal) x5 x7 x9 j = rExp (Ideal.div (x5 ix0 * x7 j) (x9 ix0)) := by
  rw [val_main_v161_apply, val_main_v160_apply, val_main_c_31_apply, val_main_v159_apply, val_main_v158_apply, val_main_v157_apply, val_main_v156_apply, val_main_v155_apply, val_main_cst_30_apply, val_main_v154_apply, val_main_v153_apply, outMult_eq]
  rfl

theorem outM_eq : val_main_v170 (F := Ideal) x5 x7 x9 j = rM (Ideal.div (x5 ix0 * x7 j) (x9 ix0)) := by
  rw [val_main_v170_apply, val_main_v169_apply, val_main_v168_apply, val_main_v167_apply, val_main_cst_33_apply, val_main_v166_apply, val_main_v165_apply, val_main_v164_apply, val_main_cst_32_apply, val_main_v163_apply, val_main_v162_apply, outExp_eq, outMult_eq]
  rfl

theorem outK_eq : val_main_v172 (F := Ideal) x5 x7 x9 j = rK 10#32 (Ideal.div (x5 ix0 * x7 j) (x9 ix0)) := by
  rw [val_main_v172_apply, val_main_v171_apply, val_main_c_34_apply, outExp_eq]
  rfl

theorem outRound_eq (j) : val_main_v174 (F := Ideal) j = IntOp.shrsi .host (IntOp.shli .host 1#32 4#32) 1#32 := by
  rw [val_main_v174_apply, val_main_v173_apply]
  rfl

end Output

/-- An element of the output before its clip. -/
def rOut (acc : EReal) (b : BitVec 32) (mult : EReal) : BitVec 32 :=
  rReq (rPre (IntOp.addi (Ideal.fptosi 32 acc) b) 4#32) (rM mult) (rK 10#32 mult)

section Result

variable (i : S2x384x4096.Idx)

theorem col_eq : idx_main_v146 (idx_main_v147 i) = ix1 (n0 := 4096) (i 2) := by
  funext a
  match a with
  | ⟨0, _⟩ => rfl

theorem outWord_eq : val_main_v191 (F := Ideal) x0 x1 x2 x3 x4 x5 x6 x7 x8 x9 i = rOut (val_main_v144 (F := Ideal) x0 x1 x2 x3 x4 x5 x6 i) (x8 (ix1 (n0 := 4096) (i 2))) (Ideal.div (x5 ix0 * x7 (ix1 (n0 := 4096) (i 2))) (x9 ix0)) := by
  have e1 : idx_main_v179 (idx_main_v180 i) = ix1 (n0 := 4096) (i 2) := col_eq i
  have e2 : idx_main_v186 (idx_main_v187 i) = ix1 (n0 := 4096) (i 2) := col_eq i
  have e3 : idx_main_v189 (idx_main_v190 i) = ix1 (n0 := 4096) (i 2) := col_eq i
  rw [val_main_v191_apply, val_main_v188_apply, val_main_v181_apply, val_main_v178_apply, val_main_v176_apply, val_main_v148_apply, val_main_v145_apply, val_main_v147_apply, val_main_v146_apply, col_eq, val_main_v175_apply, outRound_eq, val_main_v177_apply, val_main_c_38_apply, val_main_v180_apply, val_main_v179_apply, e1, outM_eq, val_main_v187_apply, val_main_v186_apply, e2, val_main_v185_apply, val_main_v184_apply, val_main_c_40_apply, val_main_v183_apply, val_main_v182_apply, val_main_c_39_apply, outK_eq, val_main_v190_apply, val_main_v189_apply, e3, outK_eq]
  rfl

/-- The output layer. -/
theorem out_eq : val_main_v193 (F := Ideal) x0 x1 x2 x3 x4 x5 x6 x7 x8 x9 i = (clipWord (rOut
    (((∑ f : Fin 16384, (val_main_v137 (F := Ideal) x0 x1 x2 x3 x4 x5 (ix3 (i 0) (i 1) f)).toInt * (x6 (ix2 f (i 2))).toInt : ℤ) : ℝ) : EReal)
    (x8 (ix1 (n0 := 4096) (i 2))) (Ideal.div (x5 ix0 * x7 (ix1 (n0 := 4096) (i 2))) (x9 ix0)))).setWidth 8 := by
  rw [← dotTwo_eq, ← outWord_eq]
  rw [val_main_v193_apply, val_main_v192_apply, val_main_call5_v4_apply, val_main_call5_v3_apply, val_main_c_42_apply, val_main_call5_v2_apply, val_main_call5_v1_apply, val_main_call5_v0_apply, val_main_c_41_apply]
  rfl

end Result

/-! ## The results as arrays of rows -/

theorem hiddenRows (i : S768x16384.Idx) : val_main_v195 (F := Ideal) x0 x1 x2 x3 x4 x5 i
    = val_main_v137 (F := Ideal) x0 x1 x2 x3 x4 x5 (ix3 (⟨(i 0).val / 384, by have : (i 0).val < 768 := (i 0).isLt; omega⟩ : Fin 2)
      (⟨(i 0).val % 384, by omega⟩ : Fin 384) (i 1)) := by
  rw [val_main_v195_apply]
  refine congrArg _ (funext fun a => ?_)
  have h0 : (i 0).val < 768 := (i 0).isLt
  have h1 : (i 1).val < 16384 := (i 1).isLt
  match a with
  | ⟨0, _⟩ => exact Fin.ext (by show ((i 0).val * 16384 + (i 1).val) / 6291456 = (i 0).val / 384; omega)
  | ⟨1, _⟩ => exact Fin.ext (by show ((i 0).val * 16384 + (i 1).val) / 16384 % 384 = (i 0).val % 384; omega)
  | ⟨2, _⟩ => exact Fin.ext (by show ((i 0).val * 16384 + (i 1).val) % 16384 = (i 1).val; omega)

theorem outRows (i : S768x4096.Idx) : val_main_v194 (F := Ideal) x0 x1 x2 x3 x4 x5 x6 x7 x8 x9 i
    = val_main_v193 (F := Ideal) x0 x1 x2 x3 x4 x5 x6 x7 x8 x9 (ix3 (⟨(i 0).val / 384, by have : (i 0).val < 768 := (i 0).isLt; omega⟩ : Fin 2)
      (⟨(i 0).val % 384, by omega⟩ : Fin 384) (i 1)) := by
  rw [val_main_v194_apply]
  refine congrArg _ (funext fun a => ?_)
  have h0 : (i 0).val < 768 := (i 0).isLt
  have h1 : (i 1).val < 4096 := (i 1).isLt
  match a with
  | ⟨0, _⟩ => exact Fin.ext (by show ((i 0).val * 4096 + (i 1).val) / 1572864 = (i 0).val / 384; omega)
  | ⟨1, _⟩ => exact Fin.ext (by show ((i 0).val * 4096 + (i 1).val) / 4096 % 384 = (i 0).val % 384; omega)
  | ⟨2, _⟩ => exact Fin.ext (by show ((i 0).val * 4096 + (i 1).val) % 4096 = (i 1).val; omega)

end Cert.Proof.Reference
-- ==== Proof.Agree.lean ====
/-
  Where the scales are in range, the kernel's two results are the reference's at every index.
-/
module

public import proofs.«01_k».proof.Proof.Fold
public import proofs.«01_k».proof.Proof.Gen.Pre_scales_in_range
public import proofs.«01_k».proof.Proof.Range
public import proofs.«01_k».proof.Proof.Reference

@[expose] public section

noncomputable section

namespace Cert.Proof.Agree

open Idealize.ShloMosaic Idealize.ShloMosaic.TcCoe Idealize.SL.Sem
open Cert.KernelIdeal Cert.Proof.Fold Cert.Proof.Tile Cert.Proof.Scalars Cert.Proof.Requant
open Cert.Proof.Words (clipWord)
open Cert.ReferenceIdeal.Read (val_main_v137 val_main_v193 val_main_v194 val_main_v195)
open scoped BigOperators

/-! ## The elements -/

/-- The hidden element, over any sum of bytes' products. -/
theorem hidden_elem {z : ℤ} (hz : |z| ≤ 67108864) {r β η : ℝ} (H : InRange r β η) :
    kHidden ((z : ℝ) : EReal) (r : EReal) (β : EReal) (hHalf (η : EReal)) = rHidden ((z : ℝ) : EReal) (r : EReal) (β : EReal) (η : EReal) := by
  unfold hHalf
  rw [half_eq, one_eq]
  exact kHidden_eq hz H

/-- The output element. -/
theorem out_elem (acc : EReal) (b : BitVec 32) {μ : ℝ} {E : ℤ} (h : Powers.IsExp μ E) (h1 : -110 ≤ E) (h2 : E ≤ 100) :
    yWord acc b (μ : EReal) = Reference.rOut acc b (μ : EReal) := by
  have ek := kK_eq h h1 h2 136 10 (by norm_num)
  rw [show BitVec.ofInt 32 136 = 136#32 by decide, show BitVec.ofInt 32 10 = 10#32 by decide] at ek
  unfold yWord Reference.rOut
  rw [kReq_eq, kM_eq h h1 h2, ek]
  unfold rPre
  rw [show IntOp.shrsi .host (IntOp.shli .host 1#32 4#32) 1#32 = 8#32 by decide, shrsi_unit .vector .host]

/-! ## The results -/

variable (m : (ℓ : Loc nD τ sig) → Buf (Elt Ideal) ℓ) (c : Dev nD)

/-- The precondition at a device. -/
def Pre : Prop :=
  (Cert.Pre_scales_in_range.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).1 = (fun _ => 1#1)
    ∧ (Cert.Pre_scales_in_range.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).2 = (fun _ => 1#1)

variable {m c}

theorem hidden_agree (h : Pre m c) (r : Fin 768) (f : Fin 16384) :
    hidden m c r f = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r f) := by
  obtain ⟨ρ, β, η, e1, e2, e3, H⟩ := Range.hidden_range (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) h.1
    (⟨r.val / 384, by omega⟩ : Fin 2) (⟨r.val % 384, by omega⟩ : Fin 384) f
  have hz : |dotOne m c r f| ≤ 67108864 :=
    le_trans (Sums.abs_dot (fun k : Fin 4096 => actX m c r k) (fun k : Fin 4096 => wOne m c k f)) (by norm_num)
  refine Eq.trans ?_ ((Reference.hiddenRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r f)).trans (Reference.hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) _)).symm
  show (clipWord (kHidden ((dotOne m c r f : ℝ) : EReal) (actS m c r * sOne m c f) (bOne m c f) (hHalf (hScale m c)))).setWidth 8
    = (clipWord (rHidden ((dotOne m c r f : ℝ) : EReal) (actS m c r * sOne m c f) (bOne m c f) (hScale m c))).setWidth 8
  have d1 : actS m c r * sOne m c f = (ρ : EReal) := e1
  have d2 : bOne m c f = (β : EReal) := e2
  have d3 : hScale m c = (η : EReal) := e3
  rw [d1, d2, d3, hidden_elem hz H]

theorem out_agree (h : Pre m c) (r : Fin 768) (o : Fin 4096) :
    out m c r o = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r o) := by
  obtain ⟨μ, E, e, hE, h1, h2⟩ := Range.out_range (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) h.2 o
  refine Eq.trans ?_ ((Reference.outRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r o)).trans (Reference.out_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) _)).symm
  have hs : dotTwo m c r o = ∑ f : Fin 16384, (val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (ix3 (⟨r.val / 384, by omega⟩ : Fin 2) (⟨r.val % 384, by omega⟩ : Fin 384) f)).toInt * (wTwo m c f o).toInt := by
    refine Finset.sum_congr rfl fun f _ => ?_
    rw [(hidden_agree h r f).trans (Reference.hiddenRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r f))]
    rfl
  have d : Ideal.div (hScale m c * sTwo m c o) (yScale m c) = (μ : EReal) := e
  show (clipWord (yWord ((dotTwo m c r o : ℝ) : EReal) (bTwo m c o) (Ideal.div (hScale m c * sTwo m c o) (yScale m c)))).setWidth 8
    = (clipWord (Reference.rOut (((∑ f : Fin 16384, (val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (ix3 (⟨r.val / 384, by omega⟩ : Fin 2) (⟨r.val % 384, by omega⟩ : Fin 384) f)).toInt * (wTwo m c f o).toInt : ℤ) : ℝ) : EReal)
        (bTwo m c o) (Ideal.div (hScale m c * sTwo m c o) (yScale m c)))).setWidth 8
  rw [d, out_elem _ _ hE h1 h2, hs]

/-- The hidden array the kernel leaves is the reference's. -/
theorem hidden_array (h : Pre m c) : Cert.KernelIdeal.Value.G11 m c = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (G11_eq m c).trans (funext fun i => ?_)
  have hi : i = ix2 (n0 := 768) (n1 := 16384) (i 0) (i 1) := ValueIdx.eq_ix2 i
  exact (hidden_agree h (i 0) (i 1)).trans (congrArg _ hi.symm)

/-- The output array the kernel leaves is the reference's. -/
theorem out_array (h : Pre m c) : Cert.KernelIdeal.Value.G10 m c = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (G10_eq m c).trans (funext fun i => ?_)
  have hi : i = ix2 (n0 := 768) (n1 := 4096) (i 0) (i 1) := ValueIdx.eq_ix2 i
  exact (out_agree h (i 0) (i 1)).trans (congrArg _ hi.symm)

end Cert.Proof.Agree

end
-- ==== Proof.lean ====
/-
  The proof of `Cert.Claim`. The frames of the two kernel programs are the generated ones; the reference's is its run,
  which leaves the arguments as they were. The algebraic claim is the kernel's run and the reference's, with the two
  results equal by `Proof/Agree.lean`: the kernel's hidden array and output, read element by element (`Proof/Fold.lean`),
  against the reference's (`Proof/Reference.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_scales_in_range
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference runs and leaves its arguments as they were; it declares no semaphore. -/
theorem frame_r : Cert.quiescent_ReferenceIdeal := by
  intro m ρ _
  refine (θ_run Cert.ReferenceIdeal.defs _ _).mono (fun r h => ⟨fun c => ?_, sem_eq_zero_of_no_sems (by decide) r.2⟩)
    (Cert.ReferenceIdeal.Value.run (F := Ideal) m ρ)
  exact (h c).2.2.2.2

/-- The kernel and the reference leave the same results, where the scales are in range. -/
theorem algebraic : Cert.algebraic_KernelIdeal_ReferenceIdeal_pre_scales_in_range := by
  intro m ρ m' ρ' hpre hagree
  refine ⟨fun c => Cert.KernelIdeal.Value.G10 m c, fun c => m ((c.tc : Thread Cert.KernelIdeal.nD Cert.KernelIdeal.τ).loc Cert.KernelIdeal.main_arg9),
    fun c => Cert.KernelIdeal.Value.G11 m c, fun c => m ((c.tc : Thread Cert.KernelIdeal.nD Cert.KernelIdeal.τ).loc Cert.KernelIdeal.main_arg5), ?_, ?_⟩
  · refine (θ_run Cert.KernelIdeal.defs _ _).mono (fun r h c => ?_) (Cert.KernelIdeal.Value.run m ρ)
    obtain ⟨ho, hh, k0, k1, k2, k3, k4, k5, k6, k7, k8, k9⟩ := h c
    exact ⟨ho, k9, hh, k5, k0, k1, k2, k3, k4, k5, k6, k7, k8, k9⟩
  · refine (θ_run Cert.ReferenceIdeal.defs _ _).mono (fun r h c => ?_) (Cert.ReferenceIdeal.Value.run (F := Ideal) m' ρ')
    obtain ⟨ho, -, hh, -, k0, k1, k2, k3, k4, k5, k6, k7, k8, k9⟩ := h c
    obtain ⟨h0, h1, h2, h3, h4, h5, h6, h7, h8, h9⟩ := hagree c
    have eo : Cert.ReferenceIdeal.Read.val_main_v194 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
        = Cert.KernelIdeal.Value.G10 m c := by
      rw [h0, h1, h2, h3, h4, h5, h6, h7, h8, h9]
      exact (Agree.out_array (hpre c)).symm
    have eh : Cert.ReferenceIdeal.Read.val_main_v195 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        = Cert.KernelIdeal.Value.G11 m c := by
      rw [h0, h1, h2, h3, h4, h5]
      exact (Agree.hidden_array (hpre c)).symm
    exact ⟨ho.trans ((Cert.ReferenceIdeal.Read.val_main_v194_eq _).trans eo), k9.trans h9,
      hh.trans ((Cert.ReferenceIdeal.Read.val_main_v195_eq _).trans eh), k5.trans h5, k0, k1, k2, k3, k4, k5, k6, k7, k8, k9⟩

theorem claim : Cert.Claim :=
  ⟨Cert.Kernel.Gen.facts, Cert.KernelIdeal.Gen.facts, Cert.ReferenceIdeal.Gen.facts, Cert.Pre_scales_in_range.Gen.facts,
    fun m ρ _ => Cert.Kernel.Gen.frame m ρ,
    fun m ρ _ => Cert.KernelIdeal.Gen.frame m ρ,
    fun m ρ _ => Cert.KernelIdeal.Gen.frame m ρ,
    frame_r,
    fun m ρ _ => frame_r m ρ trivial,
    trivial,
    algebraic⟩

end Cert.Proof

end
